-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Version (m : (ℓ : Loc Cert.Version.nD Cert.Version.τ Cert.Version.sig) → Buf (Elt Bits) ℓ) : Prop :=
  True

def Pre_VersionIdeal (m : (ℓ : Loc Cert.VersionIdeal.nD Cert.VersionIdeal.τ Cert.VersionIdeal.sig) → Buf (Elt Ideal) ℓ) : Prop :=
  True

def Pre_StoredIdeal (m : (ℓ : Loc Cert.StoredIdeal.nD Cert.StoredIdeal.τ Cert.StoredIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Version [hVersion : Cert.Version.Facts] : Prop :=
  ∀ (m : (ℓ : Loc Cert.Version.nD Cert.Version.τ Cert.Version.sig) → Buf (Elt Bits) ℓ) (g : Dev Cert.Version.nD → PrngReg), Pre_Version m →
    θ_run (Cert.Version.defs (F := Bits)) (onTc (τ := Cert.Version.τ) (Cert.Version.main (F := Bits))) ⟨m, fun _ => 0, g⟩ (fun r => (∀ c : Dev Cert.Version.nD,
      r.2.mem ((c.tc : Thread Cert.Version.nD Cert.Version.τ).loc Cert.Version.main_arg0) = m ((c.tc : Thread Cert.Version.nD Cert.Version.τ).loc Cert.Version.main_arg0)
      ∧ r.2.mem ((c.tc : Thread Cert.Version.nD Cert.Version.τ).loc Cert.Version.main_arg1) = m ((c.tc : Thread Cert.Version.nD Cert.Version.τ).loc Cert.Version.main_arg1)
      ∧ r.2.mem ((c.tc : Thread Cert.Version.nD Cert.Version.τ).loc Cert.Version.main_arg2) = m ((c.tc : Thread Cert.Version.nD Cert.Version.τ).loc Cert.Version.main_arg2)
      ∧ r.2.mem ((c.tc : Thread Cert.Version.nD Cert.Version.τ).loc Cert.Version.main_arg3) = m ((c.tc : Thread Cert.Version.nD Cert.Version.τ).loc Cert.Version.main_arg3)
      ∧ r.2.mem ((c.tc : Thread Cert.Version.nD Cert.Version.τ).loc Cert.Version.main_arg4) = m ((c.tc : Thread Cert.Version.nD Cert.Version.τ).loc Cert.Version.main_arg4))
      ∧ r.2.sem = fun _ => 0)

def quiescent_VersionIdeal [hVersionIdeal : Cert.VersionIdeal.Facts] : Prop :=
  ∀ (m : (ℓ : Loc Cert.VersionIdeal.nD Cert.VersionIdeal.τ Cert.VersionIdeal.sig) → Buf (Elt Ideal) ℓ) (g : Dev Cert.VersionIdeal.nD → PrngReg), Pre_VersionIdeal m →
    θ_run (Cert.VersionIdeal.defs (F := Ideal)) (onTc (τ := Cert.VersionIdeal.τ) (Cert.VersionIdeal.main (F := Ideal))) ⟨m, fun _ => 0, g⟩ (fun r => (∀ c : Dev Cert.VersionIdeal.nD,
      r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
      ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1)
      ∧ r.2.mem ((c.tc : Thread Cert.VersionIdeal.nD Cert.VersionIdeal.τ).loc Cert.VersionIdeal.main_arg2) = m ((c.tc : Thread Cert.VersionIdeal.nD Cert.VersionIdeal.τ).loc Cert.VersionIdeal.main_arg2)
      ∧ r.2.mem ((c.tc : Thread Cert.VersionIdeal.nD Cert.VersionIdeal.τ).loc Cert.VersionIdeal.main_arg3) = m ((c.tc : Thread Cert.VersionIdeal.nD Cert.VersionIdeal.τ).loc Cert.VersionIdeal.main_arg3)
      ∧ r.2.mem ((c.tc : Thread Cert.VersionIdeal.nD Cert.VersionIdeal.τ).loc Cert.VersionIdeal.main_arg4) = m ((c.tc : Thread Cert.VersionIdeal.nD Cert.VersionIdeal.τ).loc Cert.VersionIdeal.main_arg4))
      ∧ r.2.sem = fun _ => 0)

def quiescent_StoredIdeal [hStoredIdeal : Cert.StoredIdeal.Facts] : Prop :=
  ∀ (m : (ℓ : Loc Cert.StoredIdeal.nD Cert.StoredIdeal.τ Cert.StoredIdeal.sig) → Buf (Elt Ideal) ℓ) (g : Dev Cert.StoredIdeal.nD → PrngReg), Pre_StoredIdeal m →
    θ_run (Cert.StoredIdeal.defs (F := Ideal)) (onTc (τ := Cert.StoredIdeal.τ) (Cert.StoredIdeal.main (F := Ideal))) ⟨m, fun _ => 0, g⟩ (fun r => (∀ c : Dev Cert.StoredIdeal.nD,
      r.2.mem ((c.tc : Thread Cert.StoredIdeal.nD Cert.StoredIdeal.τ).loc Cert.StoredIdeal.main_arg0) = m ((c.tc : Thread Cert.StoredIdeal.nD Cert.StoredIdeal.τ).loc Cert.StoredIdeal.main_arg0)
      ∧ r.2.mem ((c.tc : Thread Cert.StoredIdeal.nD Cert.StoredIdeal.τ).loc Cert.StoredIdeal.main_arg1) = m ((c.tc : Thread Cert.StoredIdeal.nD Cert.StoredIdeal.τ).loc Cert.StoredIdeal.main_arg1)
      ∧ r.2.mem ((c.tc : Thread Cert.StoredIdeal.nD Cert.StoredIdeal.τ).loc Cert.StoredIdeal.main_arg2) = m ((c.tc : Thread Cert.StoredIdeal.nD Cert.StoredIdeal.τ).loc Cert.StoredIdeal.main_arg2)
      ∧ r.2.mem ((c.tc : Thread Cert.StoredIdeal.nD Cert.StoredIdeal.τ).loc Cert.StoredIdeal.main_arg3) = m ((c.tc : Thread Cert.StoredIdeal.nD Cert.StoredIdeal.τ).loc Cert.StoredIdeal.main_arg3)
      ∧ r.2.mem ((c.tc : Thread Cert.StoredIdeal.nD Cert.StoredIdeal.τ).loc Cert.StoredIdeal.main_arg4) = m ((c.tc : Thread Cert.StoredIdeal.nD Cert.StoredIdeal.τ).loc Cert.StoredIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Version_VersionIdeal : Prop :=
  True

def algebraic_VersionIdeal_StoredIdeal [hVersionIdeal : Cert.VersionIdeal.Facts] [hStoredIdeal : Cert.StoredIdeal.Facts] : Prop :=
  ∀ (m : (ℓ : Loc Cert.VersionIdeal.nD Cert.VersionIdeal.τ Cert.VersionIdeal.sig) → Buf (Elt Ideal) ℓ) (g : Dev Cert.VersionIdeal.nD → PrngReg)
    (m' : (ℓ : Loc Cert.StoredIdeal.nD Cert.StoredIdeal.τ Cert.StoredIdeal.sig) → Buf (Elt Ideal) ℓ) (g' : Dev Cert.StoredIdeal.nD → PrngReg), Pre_VersionIdeal m →
    (∀ c : Dev Cert.VersionIdeal.nD,
      m' ((c.tc : Thread Cert.StoredIdeal.nD Cert.StoredIdeal.τ).loc Cert.StoredIdeal.main_arg0) = m ((c.tc : Thread Cert.VersionIdeal.nD Cert.VersionIdeal.τ).loc Cert.VersionIdeal.main_arg0)
      ∧ m' ((c.tc : Thread Cert.StoredIdeal.nD Cert.StoredIdeal.τ).loc Cert.StoredIdeal.main_arg1) = m ((c.tc : Thread Cert.VersionIdeal.nD Cert.VersionIdeal.τ).loc Cert.VersionIdeal.main_arg1)
      ∧ m' ((c.tc : Thread Cert.StoredIdeal.nD Cert.StoredIdeal.τ).loc Cert.StoredIdeal.main_arg2) = m ((c.tc : Thread Cert.VersionIdeal.nD Cert.VersionIdeal.τ).loc Cert.VersionIdeal.main_arg2)
      ∧ m' ((c.tc : Thread Cert.StoredIdeal.nD Cert.StoredIdeal.τ).loc Cert.StoredIdeal.main_arg3) = m ((c.tc : Thread Cert.VersionIdeal.nD Cert.VersionIdeal.τ).loc Cert.VersionIdeal.main_arg3)
      ∧ m' ((c.tc : Thread Cert.StoredIdeal.nD Cert.StoredIdeal.τ).loc Cert.StoredIdeal.main_arg4) = m ((c.tc : Thread Cert.VersionIdeal.nD Cert.VersionIdeal.τ).loc Cert.VersionIdeal.main_arg4)) →
    ∃ (v0 : (c : Dev Cert.VersionIdeal.nD) → Buf (Elt Ideal) ((c.tc : Thread Cert.VersionIdeal.nD Cert.VersionIdeal.τ).loc Cert.VersionIdeal.main_v4)) (v1 : (c : Dev Cert.VersionIdeal.nD) → Buf (Elt Ideal) ((c.tc : Thread Cert.VersionIdeal.nD Cert.VersionIdeal.τ).loc Cert.VersionIdeal.main_v5)),
      θ_run (Cert.VersionIdeal.defs (F := Ideal)) (onTc (τ := Cert.VersionIdeal.τ) (Cert.VersionIdeal.main (F := Ideal))) ⟨m, fun _ => 0, g⟩ (fun r => ∀ c : Dev Cert.VersionIdeal.nD,
          r.2.mem ((c.tc : Thread Cert.VersionIdeal.nD Cert.VersionIdeal.τ).loc Cert.VersionIdeal.main_v4) = v0 c
          ∧ r.2.mem ((c.tc : Thread Cert.VersionIdeal.nD Cert.VersionIdeal.τ).loc Cert.VersionIdeal.main_v5) = v1 c
          ∧ r.2.mem ((c.tc : Thread Cert.VersionIdeal.nD Cert.VersionIdeal.τ).loc Cert.VersionIdeal.main_arg0) = m ((c.tc : Thread Cert.VersionIdeal.nD Cert.VersionIdeal.τ).loc Cert.VersionIdeal.main_arg0)
          ∧ r.2.mem ((c.tc : Thread Cert.VersionIdeal.nD Cert.VersionIdeal.τ).loc Cert.VersionIdeal.main_arg1) = m ((c.tc : Thread Cert.VersionIdeal.nD Cert.VersionIdeal.τ).loc Cert.VersionIdeal.main_arg1)
          ∧ r.2.mem ((c.tc : Thread Cert.VersionIdeal.nD Cert.VersionIdeal.τ).loc Cert.VersionIdeal.main_arg2) = m ((c.tc : Thread Cert.VersionIdeal.nD Cert.VersionIdeal.τ).loc Cert.VersionIdeal.main_arg2)
          ∧ r.2.mem ((c.tc : Thread Cert.VersionIdeal.nD Cert.VersionIdeal.τ).loc Cert.VersionIdeal.main_arg3) = m ((c.tc : Thread Cert.VersionIdeal.nD Cert.VersionIdeal.τ).loc Cert.VersionIdeal.main_arg3)
          ∧ r.2.mem ((c.tc : Thread Cert.VersionIdeal.nD Cert.VersionIdeal.τ).loc Cert.VersionIdeal.main_arg4) = m ((c.tc : Thread Cert.VersionIdeal.nD Cert.VersionIdeal.τ).loc Cert.VersionIdeal.main_arg4))
      ∧ θ_run (Cert.StoredIdeal.defs (F := Ideal)) (onTc (τ := Cert.StoredIdeal.τ) (Cert.StoredIdeal.main (F := Ideal))) ⟨m', fun _ => 0, g'⟩ (fun r => ∀ c : Dev Cert.StoredIdeal.nD,
          r.2.mem ((c.tc : Thread Cert.StoredIdeal.nD Cert.StoredIdeal.τ).loc Cert.StoredIdeal.main_v44) = v0 c
          ∧ r.2.mem ((c.tc : Thread Cert.StoredIdeal.nD Cert.StoredIdeal.τ).loc Cert.StoredIdeal.main_v39) = v1 c
          ∧ r.2.mem ((c.tc : Thread Cert.StoredIdeal.nD Cert.StoredIdeal.τ).loc Cert.StoredIdeal.main_arg0) = m' ((c.tc : Thread Cert.StoredIdeal.nD Cert.StoredIdeal.τ).loc Cert.StoredIdeal.main_arg0)
          ∧ r.2.mem ((c.tc : Thread Cert.StoredIdeal.nD Cert.StoredIdeal.τ).loc Cert.StoredIdeal.main_arg1) = m' ((c.tc : Thread Cert.StoredIdeal.nD Cert.StoredIdeal.τ).loc Cert.StoredIdeal.main_arg1)
          ∧ r.2.mem ((c.tc : Thread Cert.StoredIdeal.nD Cert.StoredIdeal.τ).loc Cert.StoredIdeal.main_arg2) = m' ((c.tc : Thread Cert.StoredIdeal.nD Cert.StoredIdeal.τ).loc Cert.StoredIdeal.main_arg2)
          ∧ r.2.mem ((c.tc : Thread Cert.StoredIdeal.nD Cert.StoredIdeal.τ).loc Cert.StoredIdeal.main_arg3) = m' ((c.tc : Thread Cert.StoredIdeal.nD Cert.StoredIdeal.τ).loc Cert.StoredIdeal.main_arg3)
          ∧ r.2.mem ((c.tc : Thread Cert.StoredIdeal.nD Cert.StoredIdeal.τ).loc Cert.StoredIdeal.main_arg4) = m' ((c.tc : Thread Cert.StoredIdeal.nD Cert.StoredIdeal.τ).loc Cert.StoredIdeal.main_arg4))

def Claim : Prop :=
  ∃ (hKernel : Cert.Kernel.Facts) (hKernelIdeal : Cert.KernelIdeal.Facts) (hReferenceIdeal : Cert.ReferenceIdeal.Facts) (hVersion : Cert.Version.Facts) (hVersionIdeal : Cert.VersionIdeal.Facts) (hStoredIdeal : Cert.StoredIdeal.Facts),
    quiescent_Kernel (hKernel := hKernel)
    ∧ quiescent_KernelIdeal (hKernelIdeal := hKernelIdeal)
    ∧ quiescent_ReferenceIdeal (hReferenceIdeal := hReferenceIdeal)
    ∧ quiescent_Version (hVersion := hVersion)
    ∧ quiescent_VersionIdeal (hVersionIdeal := hVersionIdeal)
    ∧ quiescent_StoredIdeal (hStoredIdeal := hStoredIdeal)
    ∧ preserves_Kernel_KernelIdeal
    ∧ algebraic_KernelIdeal_ReferenceIdeal (hKernelIdeal := hKernelIdeal) (hReferenceIdeal := hReferenceIdeal)
    ∧ preserves_Version_VersionIdeal
    ∧ algebraic_VersionIdeal_StoredIdeal (hVersionIdeal := hVersionIdeal) (hStoredIdeal := hStoredIdeal)
-- ==== Kernel.lean ====
abbrev S16x576x768 : Shape := ⟨3, ![16, 576, 768]⟩
abbrev S768x24 : Shape := ⟨2, ![768, 24]⟩
abbrev S24 : Shape := ⟨1, ![24]⟩
abbrev S24x768 : Shape := ⟨2, ![24, 768]⟩
abbrev S768 : Shape := ⟨1, ![768]⟩
abbrev S1x24 : Shape := ⟨2, ![1, 24]⟩
abbrev S24x4 : Shape := ⟨2, ![24, 4]⟩
abbrev S9216x768 : Shape := ⟨2, ![9216, 768]⟩
abbrev S_ : Shape := ⟨0, ![]⟩
abbrev S6x24 : Shape := ⟨2, ![6, 24]⟩
abbrev S1x768 : Shape := ⟨2, ![1, 768]⟩
abbrev S9216x4 : Shape := ⟨2, ![9216, 4]⟩
abbrev S4608x768 : Shape := ⟨2, ![4608, 768]⟩
abbrev S24x384 : Shape := ⟨2, ![24, 384]⟩
abbrev S1x384 : Shape := ⟨2, ![1, 384]⟩
abbrev S4608x384 : Shape := ⟨2, ![4608, 384]⟩
abbrev S4608x4 : Shape := ⟨2, ![4608, 4]⟩
abbrev S4608x24 : Shape := ⟨2, ![4608, 24]⟩
abbrev S16x576x4 : Shape := ⟨3, ![16, 576, 4]⟩

abbrev nBuf : Space → Nat
  | .hbm => 36
  | .vmem => 15
  | .smem => 0
  | _ => 0

abbrev bufTy : (tb : Table) → Fin (tcTables nBuf tb) → BufTy
  | .hbm, ⟨0, _⟩ => ⟨S16x576x768, .f32⟩
  | .hbm, ⟨1, _⟩ => ⟨S768x24, .f32⟩
  | .hbm, ⟨2, _⟩ => ⟨S24, .f32⟩
  | .hbm, ⟨3, _⟩ => ⟨S24x768, .f32⟩
  | .hbm, ⟨4, _⟩ => ⟨S768, .f32⟩
  | .hbm, ⟨5, _⟩ => ⟨S24, .f32⟩
  | .hbm, ⟨6, _⟩ => ⟨S24, .f32⟩
  | .hbm, ⟨7, _⟩ => ⟨S1x24, .f32⟩
  | .hbm, ⟨8, _⟩ => ⟨S24, .f32⟩
  | .hbm, ⟨9, _⟩ => ⟨S1x24, .f32⟩
  | .hbm, ⟨10, _⟩ => ⟨S24, .f32⟩
  | .hbm, ⟨11, _⟩ => ⟨S1x24, .f32⟩
  | .hbm, ⟨12, _⟩ => ⟨S1x24, .f32⟩
  | .hbm, ⟨13, _⟩ => ⟨S24, .f32⟩
  | .hbm, ⟨14, _⟩ => ⟨S1x24, .f32⟩
  | .hbm, ⟨15, _⟩ => ⟨S24x4, .f32⟩
  | .hbm, ⟨16, _⟩ => ⟨S9216x768, .f32⟩
  | .hbm, ⟨17, _⟩ => ⟨S_, .f32⟩
  | .hbm, ⟨18, _⟩ => ⟨S24, .f32⟩
  | .hbm, ⟨19, _⟩ => ⟨S24, .f32⟩
  | .hbm, ⟨20, _⟩ => ⟨S_, .f32⟩
  | .hbm, ⟨21, _⟩ => ⟨S24, .f32⟩
  | .hbm, ⟨22, _⟩ => ⟨S24, .f32⟩
  | .hbm, ⟨23, _⟩ => ⟨S_, .f32⟩
  | .hbm, ⟨24, _⟩ => ⟨S24, .f32⟩
  | .hbm, ⟨25, _⟩ => ⟨S24, .f32⟩
  | .hbm, ⟨26, _⟩ => ⟨S1x24, .f32⟩
  | .hbm, ⟨27, _⟩ => ⟨S1x24, .f32⟩
  | .hbm, ⟨28, _⟩ => ⟨S1x24, .f32⟩
  | .hbm, ⟨29, _⟩ => ⟨S6x24, .f32⟩
  | .hbm, ⟨30, _⟩ => ⟨S1x24, .f32⟩
  | .hbm, ⟨31, _⟩ => ⟨S1x768, .f32⟩
  | .hbm, ⟨32, _⟩ => ⟨S9216x768, .f32⟩
  | .hbm, ⟨33, _⟩ => ⟨S9216x4, .i32⟩
  | .hbm, ⟨34, _⟩ => ⟨S16x576x768, .f32⟩
  | .hbm, ⟨35, _⟩ => ⟨S16x576x4, .i32⟩
  | .local _ .vmem, ⟨0, _⟩ => ⟨S4608x768, .f32⟩
  | .local _ .vmem, ⟨1, _⟩ => ⟨S4608x768, .f32⟩
  | .local _ .vmem, ⟨2, _⟩ => ⟨S768x24, .f32⟩
  | .local _ .vmem, ⟨3, _⟩ => ⟨S1x24, .f32⟩
  | .local _ .vmem, ⟨4, _⟩ => ⟨S24x384, .f32⟩
  | .local _ .vmem, ⟨5, _⟩ => ⟨S24x384, .f32⟩
  | .local _ .vmem, ⟨6, _⟩ => ⟨S1x384, .f32⟩
  | .local _ .vmem, ⟨7, _⟩ => ⟨S1x384, .f32⟩
  | .local _ .vmem, ⟨8, _⟩ => ⟨S6x24, .f32⟩
  | .local _ .vmem, ⟨9, _⟩ => ⟨S24x4, .f32⟩
  | .local _ .vmem, ⟨10, _⟩ => ⟨S4608x384, .f32⟩
  | .local _ .vmem, ⟨11, _⟩ => ⟨S4608x384, .f32⟩
  | .local _ .vmem, ⟨12, _⟩ => ⟨S4608x4, .i32⟩
  | .local _ .vmem, ⟨13, _⟩ => ⟨S4608x4, .i32⟩
  | .local _ .vmem, ⟨14, _⟩ => ⟨S4608x24, .f32⟩
  | _, _ => ⟨S16x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_cst_2 : Ref sig .tc := ⟨.hbm, 10, rfl⟩
abbrev main_v2 : Ref sig .tc := ⟨.hbm, 11, rfl⟩
abbrev main_cst_3 : Ref sig .tc := ⟨.hbm, 12, rfl⟩
abbrev main_cst_4 : Ref sig .tc := ⟨.hbm, 13, rfl⟩
abbrev main_v3 : Ref sig .tc := ⟨.hbm, 14, rfl⟩
abbrev main_cst_5 : Ref sig .tc := ⟨.hbm, 15, rfl⟩
abbrev main_v4 : Ref sig .tc := ⟨.hbm, 16, rfl⟩
abbrev main_cst_6 : Ref sig .tc := ⟨.hbm, 17, rfl⟩
abbrev main_v5 : Ref sig .tc := ⟨.hbm, 18, rfl⟩
abbrev main_v6 : Ref sig .tc := ⟨.hbm, 19, rfl⟩
abbrev main_cst_7 : Ref sig .tc := ⟨.hbm, 20, rfl⟩
abbrev main_v7 : Ref sig .tc := ⟨.hbm, 21, rfl⟩
abbrev main_v8 : Ref sig .tc := ⟨.hbm, 22, rfl⟩
abbrev main_cst_8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4608x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S24x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S6x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S24x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4608x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4608x4 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16x576x768 : Shape := ⟨3, ![16, 576, 768]⟩
abbrev S768x24 : Shape := ⟨2, ![768, 24]⟩
abbrev S24 : Shape := ⟨1, ![24]⟩
abbrev S24x768 : Shape := ⟨2, ![24, 768]⟩
abbrev S768 : Shape := ⟨1, ![768]⟩
abbrev S6 : Shape := ⟨1, ![6]⟩
abbrev S16x576x24 : Shape := ⟨3, ![16, 576, 24]⟩
abbrev S1x1x24 : Shape := ⟨3, ![1, 1, 24]⟩
abbrev S16x576x4x6 : Shape := ⟨4, ![16, 576, 4, 6]⟩
abbrev S_ : Shape := ⟨0, ![]⟩
abbrev S1x1x1x6 : Shape := ⟨4, ![1, 1, 1, 6]⟩
abbrev S16x576x4 : Shape := ⟨3, ![16, 576, 4]⟩
abbrev S1x1x768 : Shape := ⟨3, ![1, 1, 768]⟩

abbrev nBuf : Space → Nat
  | .hbm => 109
  | .vmem => 0
  | .smem => 0
  | _ => 0

abbrev bufTy : (tb : Table) → Fin (tcTables nBuf tb) → BufTy
  | .hbm, ⟨0, _⟩ => ⟨S16x576x768, .f32⟩
  | .hbm, ⟨1, _⟩ => ⟨S768x24, .f32⟩
  | .hbm, ⟨2, _⟩ => ⟨S24, .f32⟩
  | .hbm, ⟨3, _⟩ => ⟨S24x768, .f32⟩
  | .hbm, ⟨4, _⟩ => ⟨S768, .f32⟩
  | .hbm, ⟨5, _⟩ => ⟨S6, .i32⟩
  | .hbm, ⟨6, _⟩ => ⟨S6, .i32⟩
  | .hbm, ⟨7, _⟩ => ⟨S16x576x24, .f32⟩
  | .hbm, ⟨8, _⟩ => ⟨S1x1x24, .f32⟩
  | .hbm, ⟨9, _⟩ => ⟨S16x576x24, .f32⟩
  | .hbm, ⟨10, _⟩ => ⟨S16x576x24, .f32⟩
  | .hbm, ⟨11, _⟩ => ⟨S16x576x4x6, .f32⟩
  | .hbm, ⟨12, _⟩ => ⟨S6, .f32⟩
  | .hbm, ⟨13, _⟩ => ⟨S_, .f32⟩
  | .hbm, ⟨14, _⟩ => ⟨S6, .f32⟩
  | .hbm, ⟨15, _⟩ => ⟨S6, .f32⟩
  | .hbm, ⟨16, _⟩ => ⟨S_, .f32⟩
  | .hbm, ⟨17, _⟩ => ⟨S6, .f32⟩
  | .hbm, ⟨18, _⟩ => ⟨S6, .f32⟩
  | .hbm, ⟨19, _⟩ => ⟨S_, .f32⟩
  | .hbm, ⟨20, _⟩ => ⟨S6, .f32⟩
  | .hbm, ⟨21, _⟩ => ⟨S6, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S6, .i32⟩
  | .hbm, ⟨29, _⟩ => ⟨S6, .i32⟩
  | .hbm, ⟨30, _⟩ => ⟨S_, .i32⟩
  | .hbm, ⟨31, _⟩ => ⟨S6, .i32⟩
  | .hbm, ⟨32, _⟩ => ⟨S6, .i1⟩
  | .hbm, ⟨33, _⟩ => ⟨S_, .i32⟩
  | .hbm, ⟨34, _⟩ => ⟨S6, .i32⟩
  | .hbm, ⟨35, _⟩ => ⟨S6, .i1⟩
  | .hbm, ⟨36, _⟩ => ⟨S_, .i32⟩
  | .hbm, ⟨37, _⟩ => ⟨S_, .i1⟩
  | .hbm, ⟨38, _⟩ => ⟨S6, .i1⟩
  | .hbm, ⟨39, _⟩ => ⟨S6, .i1⟩
  | .hbm, ⟨40, _⟩ => ⟨S6, .i1⟩
  | .hbm, ⟨41, _⟩ => ⟨S6, .i32⟩
  | .hbm, ⟨42, _⟩ => ⟨S6, .i32⟩
  | .hbm, ⟨43, _⟩ => ⟨S6, .i32⟩
  | .hbm, ⟨44, _⟩ => ⟨S_, .i32⟩
  | .hbm, ⟨45, _⟩ => ⟨S6, .i32⟩
  | .hbm, ⟨46, _⟩ => ⟨S6, .i1⟩
  | .hbm, ⟨47, _⟩ => ⟨S_, .f32⟩
  | .hbm, ⟨48, _⟩ => ⟨S_, .f32⟩
  | .hbm, ⟨49, _⟩ => ⟨S6, .f32⟩
  | .hbm, ⟨50, _⟩ => ⟨S6, .f32⟩
  | .hbm, ⟨51, _⟩ => ⟨S6, .f32⟩
  | .hbm, ⟨52, _⟩ => ⟨S6, .f32⟩
  | .hbm, ⟨53, _⟩ => ⟨S6, .f32⟩
  | .hbm, ⟨54, _⟩ => ⟨S6, .f32⟩
  | .hbm, ⟨55, _⟩ => ⟨S1x1x1x6, .f32⟩
  | .hbm, ⟨56, _⟩ => ⟨S16x576x4x6, .f32⟩
  | .hbm, ⟨57, _⟩ => ⟨S16x576x4x6, .f32⟩
  | .hbm, ⟨58, _⟩ => ⟨S16x576x4x6, .f32⟩
  | .hbm, ⟨59, _⟩ => ⟨S1x1x1x6, .f32⟩
  | .hbm, ⟨60, _⟩ => ⟨S16x576x4x6, .f32⟩
  | .hbm, ⟨61, _⟩ => ⟨S16x576x4x6, .f32⟩
  | .hbm, ⟨62, _⟩ => ⟨S6, .f32⟩
  | .hbm, ⟨63, _⟩ => ⟨S1x1x1x6, .f32⟩
  | .hbm, ⟨64, _⟩ => ⟨S16x576x4x6, .f32⟩
  | .hbm, ⟨65, _⟩ => ⟨S16x576x4x6, .f32⟩
  | .hbm, ⟨66, _⟩ => ⟨S16x576x4x6, .f32⟩
  | .hbm, ⟨67, _⟩ => ⟨S16x576x4x6, .f32⟩
  | .hbm, ⟨68, _⟩ => ⟨S16x576x4x6, .f32⟩
  | .hbm, ⟨69, _⟩ => ⟨S_, .i32⟩
  | .hbm, ⟨70, _⟩ => ⟨S_, .i32⟩
  | .hbm, ⟨71, _⟩ => ⟨S6, .i32⟩
  | .hbm, ⟨72, _⟩ => ⟨S6, .i32⟩
  | .hbm, ⟨73, _⟩ => ⟨S6, .i32⟩
  | .hbm, ⟨74, _⟩ => ⟨S_, .i32⟩
  | .hbm, ⟨75, _⟩ => ⟨S6, .i32⟩
  | .hbm, ⟨76, _⟩ => ⟨S6, .i1⟩
  | .hbm, ⟨77, _⟩ => ⟨S6, .i32⟩
  | .hbm, ⟨78, _⟩ => ⟨S6, .i32⟩
  | .hbm, ⟨79, _⟩ => ⟨S_, .i32⟩
  | .hbm, ⟨80, _⟩ => ⟨S6, .i32⟩
  | .hbm, ⟨81, _⟩ => ⟨S6, .i1⟩
  | .hbm, ⟨82, _⟩ => ⟨S6, .i1⟩
  | .hbm, ⟨83, _⟩ => ⟨S_, .i32⟩
  | .hbm, ⟨84, _⟩ => ⟨S6, .i32⟩
  | .hbm, ⟨85, _⟩ => ⟨S6, .i32⟩
  | .hbm, ⟨86, _⟩ => ⟨S6, .i32⟩
  | .hbm, ⟨87, _⟩ => ⟨S6, .f32⟩
  | .hbm, ⟨88, _⟩ => ⟨S1x1x1x6, .f32⟩
  | .hbm, ⟨89, _⟩ => ⟨S16x576x4x6, .f32⟩
  | .hbm, ⟨90, _⟩ => ⟨S16x576x4x6, .f32⟩
  | .hbm, ⟨91, _⟩ => ⟨S1x1x1x6, .f32⟩
  | .hbm, ⟨92, _⟩ => ⟨S16x576x4x6, .f32⟩
  | .hbm, ⟨93, _⟩ => ⟨S16x576x4x6, .f32⟩
  | .hbm, ⟨94, _⟩ => ⟨S1x1x1x6, .f32⟩
  | .hbm, ⟨95, _⟩ => ⟨S16x576x4x6, .f32⟩
  | .hbm, ⟨96, _⟩ => ⟨S16x576x4x6, .f32⟩
  | .hbm, ⟨97, _⟩ => ⟨S6, .f32⟩
  | .hbm, ⟨98, _⟩ => ⟨S1x1x1x6, .f32⟩
  | .hbm, ⟨99, _⟩ => ⟨S16x576x4x6, .f32⟩
  | .hbm, ⟨100, _⟩ => ⟨S16x576x4x6, .f32⟩
  | .hbm, ⟨101, _⟩ => ⟨S_, .f32⟩
  | .hbm, ⟨102, _⟩ => ⟨S16x576x4, .f32⟩
  | .hbm, ⟨103, _⟩ => ⟨S16x576x4, .i32⟩
  | .hbm, ⟨104, _⟩ => ⟨S16x576x24, .f32⟩
  | .hbm, ⟨105, _⟩ => ⟨S16x576x768, .f32⟩
  | .hbm, ⟨106, _⟩ => ⟨S1x1x768, .f32⟩
  | .hbm, ⟨107, _⟩ => ⟨S16x576x768, .f32⟩
  | .hbm, ⟨108, _⟩ => ⟨S16x576x768, .f32⟩
  | _, _ => ⟨S16x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v12 : Ref sig .tc := ⟨.hbm, 43, rfl⟩
abbrev main_c_4 : Ref sig .tc := ⟨.hbm, 44, rfl⟩
abbrev main_v13 : Ref sig .tc := ⟨.hbm, 45, rfl⟩
abbrev main_v14 : Ref sig .tc := ⟨.hbm, 46, rfl⟩
abbrev main_cst_5 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_8 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩

abbrev nD : Nat := 1
abbrev τ : Topo := Topo.v7x

variable {F : FTy → Type} [FloatOps F]
-- ==== Version.lean ====
abbrev S16x576x768 : Shape := ⟨3, ![16, 576, 768]⟩
abbrev S768x24 : Shape := ⟨2, ![768, 24]⟩
abbrev S24 : Shape := ⟨1, ![24]⟩
abbrev S24x768 : Shape := ⟨2, ![24, 768]⟩
abbrev S768 : Shape := ⟨1, ![768]⟩
abbrev S6x24 : Shape := ⟨2, ![6, 24]⟩
abbrev S24x4 : Shape := ⟨2, ![24, 4]⟩
abbrev S9216x768 : Shape := ⟨2, ![9216, 768]⟩
abbrev S1x24 : Shape := ⟨2, ![1, 24]⟩
abbrev S1x768 : Shape := ⟨2, ![1, 768]⟩
abbrev S9216x4 : Shape := ⟨2, ![9216, 4]⟩
abbrev S4608x768 : Shape := ⟨2, ![4608, 768]⟩
abbrev S24x384 : Shape := ⟨2, ![24, 384]⟩
abbrev S1x384 : Shape := ⟨2, ![1, 384]⟩
abbrev S4608x384 : Shape := ⟨2, ![4608, 384]⟩
abbrev S4608x4 : Shape := ⟨2, ![4608, 4]⟩
abbrev S4608x24 : Shape := ⟨2, ![4608, 24]⟩
abbrev S16x576x4 : Shape := ⟨3, ![16, 576, 4]⟩

abbrev nBuf : Space → Nat
  | .hbm => 14
  | .vmem => 15
  | .smem => 0
  | _ => 0

abbrev bufTy : (tb : Table) → Fin (tcTables nBuf tb) → BufTy
  | .hbm, ⟨0, _⟩ => ⟨S16x576x768, .f32⟩
  | .hbm, ⟨1, _⟩ => ⟨S768x24, .f32⟩
  | .hbm, ⟨2, _⟩ => ⟨S24, .f32⟩
  | .hbm, ⟨3, _⟩ => ⟨S24x768, .f32⟩
  | .hbm, ⟨4, _⟩ => ⟨S768, .f32⟩
  | .hbm, ⟨5, _⟩ => ⟨S6x24, .f32⟩
  | .hbm, ⟨6, _⟩ => ⟨S24x4, .f32⟩
  | .hbm, ⟨7, _⟩ => ⟨S9216x768, .f32⟩
  | .hbm, ⟨8, _⟩ => ⟨S1x24, .f32⟩
  | .hbm, ⟨9, _⟩ => ⟨S1x768, .f32⟩
  | .hbm, ⟨10, _⟩ => ⟨S9216x768, .f32⟩
  | .hbm, ⟨11, _⟩ => ⟨S9216x4, .i32⟩
  | .hbm, ⟨12, _⟩ => ⟨S16x576x768, .f32⟩
  | .hbm, ⟨13, _⟩ => ⟨S16x576x4, .i32⟩
  | .local _ .vmem, ⟨0, _⟩ => ⟨S4608x768, .f32⟩
  | .local _ .vmem, ⟨1, _⟩ => ⟨S4608x768, .f32⟩
  | .local _ .vmem, ⟨2, _⟩ => ⟨S768x24, .f32⟩
  | .local _ .vmem, ⟨3, _⟩ => ⟨S1x24, .f32⟩
  | .local _ .vmem, ⟨4, _⟩ => ⟨S24x384, .f32⟩
  | .local _ .vmem, ⟨5, _⟩ => ⟨S24x384, .f32⟩
  | .local _ .vmem, ⟨6, _⟩ => ⟨S1x384, .f32⟩
  | .local _ .vmem, ⟨7, _⟩ => ⟨S1x384, .f32⟩
  | .local _ .vmem, ⟨8, _⟩ => ⟨S6x24, .f32⟩
  | .local _ .vmem, ⟨9, _⟩ => ⟨S24x4, .f32⟩
  | .local _ .vmem, ⟨10, _⟩ => ⟨S4608x384, .f32⟩
  | .local _ .vmem, ⟨11, _⟩ => ⟨S4608x384, .f32⟩
  | .local _ .vmem, ⟨12, _⟩ => ⟨S4608x4, .i32⟩
  | .local _ .vmem, ⟨13, _⟩ => ⟨S4608x4, .i32⟩
  | .local _ .vmem, ⟨14, _⟩ => ⟨S4608x24, .f32⟩
  | _, _ => ⟨S16x576x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4608x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S768x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S24x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S6x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S24x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4608x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4608x4 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== StoredIdeal.lean ====
abbrev S16x576x768 : Shape := ⟨3, ![16, 576, 768]⟩
abbrev S768x24 : Shape := ⟨2, ![768, 24]⟩
abbrev S24 : Shape := ⟨1, ![24]⟩
abbrev S24x768 : Shape := ⟨2, ![24, 768]⟩
abbrev S768 : Shape := ⟨1, ![768]⟩
abbrev S6 : Shape := ⟨1, ![6]⟩
abbrev S16x576x24 : Shape := ⟨3, ![16, 576, 24]⟩
abbrev S1x1x24 : Shape := ⟨3, ![1, 1, 24]⟩
abbrev S16x576x4x6 : Shape := ⟨4, ![16, 576, 4, 6]⟩
abbrev S_ : Shape := ⟨0, ![]⟩
abbrev S1x1x1x6 : Shape := ⟨4, ![1, 1, 1, 6]⟩
abbrev S16x576x4 : Shape := ⟨3, ![16, 576, 4]⟩
abbrev S1x1x768 : Shape := ⟨3, ![1, 1, 768]⟩

abbrev nBuf : Space → Nat
  | .hbm => 98
  | .vmem => 0
  | .smem => 0
  | _ => 0

abbrev bufTy : (tb : Table) → Fin (tcTables nBuf tb) → BufTy
  | .hbm, ⟨0, _⟩ => ⟨S16x576x768, .f32⟩
  | .hbm, ⟨1, _⟩ => ⟨S768x24, .f32⟩
  | .hbm, ⟨2, _⟩ => ⟨S24, .f32⟩
  | .hbm, ⟨3, _⟩ => ⟨S24x768, .f32⟩
  | .hbm, ⟨4, _⟩ => ⟨S768, .f32⟩
  | .hbm, ⟨5, _⟩ => ⟨S6, .i32⟩
  | .hbm, ⟨6, _⟩ => ⟨S6, .i32⟩
  | .hbm, ⟨7, _⟩ => ⟨S6, .f32⟩
  | .hbm, ⟨8, _⟩ => ⟨S6, .f32⟩
  | .hbm, ⟨9, _⟩ => ⟨S16x576x24, .f32⟩
  | .hbm, ⟨10, _⟩ => ⟨S1x1x24, .f32⟩
  | .hbm, ⟨11, _⟩ => ⟨S16x576x24, .f32⟩
  | .hbm, ⟨12, _⟩ => ⟨S16x576x24, .f32⟩
  | .hbm, ⟨13, _⟩ => ⟨S16x576x4x6, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S6, .i32⟩
  | .hbm, ⟨21, _⟩ => ⟨S6, .i32⟩
  | .hbm, ⟨22, _⟩ => ⟨S_, .i32⟩
  | .hbm, ⟨23, _⟩ => ⟨S6, .i32⟩
  | .hbm, ⟨24, _⟩ => ⟨S6, .i1⟩
  | .hbm, ⟨25, _⟩ => ⟨S_, .i32⟩
  | .hbm, ⟨26, _⟩ => ⟨S6, .i32⟩
  | .hbm, ⟨27, _⟩ => ⟨S6, .i1⟩
  | .hbm, ⟨28, _⟩ => ⟨S_, .i32⟩
  | .hbm, ⟨29, _⟩ => ⟨S_, .i1⟩
  | .hbm, ⟨30, _⟩ => ⟨S6, .i1⟩
  | .hbm, ⟨31, _⟩ => ⟨S6, .i1⟩
  | .hbm, ⟨32, _⟩ => ⟨S6, .i1⟩
  | .hbm, ⟨33, _⟩ => ⟨S6, .i32⟩
  | .hbm, ⟨34, _⟩ => ⟨S6, .i32⟩
  | .hbm, ⟨35, _⟩ => ⟨S6, .i32⟩
  | .hbm, ⟨36, _⟩ => ⟨S_, .i32⟩
  | .hbm, ⟨37, _⟩ => ⟨S6, .i32⟩
  | .hbm, ⟨38, _⟩ => ⟨S6, .i1⟩
  | .hbm, ⟨39, _⟩ => ⟨S_, .f32⟩
  | .hbm, ⟨40, _⟩ => ⟨S_, .f32⟩
  | .hbm, ⟨41, _⟩ => ⟨S6, .f32⟩
  | .hbm, ⟨42, _⟩ => ⟨S6, .f32⟩
  | .hbm, ⟨43, _⟩ => ⟨S6, .f32⟩
  | .hbm, ⟨44, _⟩ => ⟨S1x1x1x6, .f32⟩
  | .hbm, ⟨45, _⟩ => ⟨S16x576x4x6, .f32⟩
  | .hbm, ⟨46, _⟩ => ⟨S16x576x4x6, .f32⟩
  | .hbm, ⟨47, _⟩ => ⟨S16x576x4x6, .f32⟩
  | .hbm, ⟨48, _⟩ => ⟨S1x1x1x6, .f32⟩
  | .hbm, ⟨49, _⟩ => ⟨S16x576x4x6, .f32⟩
  | .hbm, ⟨50, _⟩ => ⟨S16x576x4x6, .f32⟩
  | .hbm, ⟨51, _⟩ => ⟨S6, .f32⟩
  | .hbm, ⟨52, _⟩ => ⟨S1x1x1x6, .f32⟩
  | .hbm, ⟨53, _⟩ => ⟨S16x576x4x6, .f32⟩
  | .hbm, ⟨54, _⟩ => ⟨S16x576x4x6, .f32⟩
  | .hbm, ⟨55, _⟩ => ⟨S16x576x4x6, .f32⟩
  | .hbm, ⟨56, _⟩ => ⟨S16x576x4x6, .f32⟩
  | .hbm, ⟨57, _⟩ => ⟨S16x576x4x6, .f32⟩
  | .hbm, ⟨58, _⟩ => ⟨S_, .i32⟩
  | .hbm, ⟨59, _⟩ => ⟨S_, .i32⟩
  | .hbm, ⟨60, _⟩ => ⟨S6, .i32⟩
  | .hbm, ⟨61, _⟩ => ⟨S6, .i32⟩
  | .hbm, ⟨62, _⟩ => ⟨S6, .i32⟩
  | .hbm, ⟨63, _⟩ => ⟨S_, .i32⟩
  | .hbm, ⟨64, _⟩ => ⟨S6, .i32⟩
  | .hbm, ⟨65, _⟩ => ⟨S6, .i1⟩
  | .hbm, ⟨66, _⟩ => ⟨S6, .i32⟩
  | .hbm, ⟨67, _⟩ => ⟨S6, .i32⟩
  | .hbm, ⟨68, _⟩ => ⟨S_, .i32⟩
  | .hbm, ⟨69, _⟩ => ⟨S6, .i32⟩
  | .hbm, ⟨70, _⟩ => ⟨S6, .i1⟩
  | .hbm, ⟨71, _⟩ => ⟨S6, .i1⟩
  | .hbm, ⟨72, _⟩ => ⟨S_, .i32⟩
  | .hbm, ⟨73, _⟩ => ⟨S6, .i32⟩
  | .hbm, ⟨74, _⟩ => ⟨S6, .i32⟩
  | .hbm, ⟨75, _⟩ => ⟨S6, .i32⟩
  | .hbm, ⟨76, _⟩ => ⟨S6, .f32⟩
  | .hbm, ⟨77, _⟩ => ⟨S1x1x1x6, .f32⟩
  | .hbm, ⟨78, _⟩ => ⟨S16x576x4x6, .f32⟩
  | .hbm, ⟨79, _⟩ => ⟨S16x576x4x6, .f32⟩
  | .hbm, ⟨80, _⟩ => ⟨S1x1x1x6, .f32⟩
  | .hbm, ⟨81, _⟩ => ⟨S16x576x4x6, .f32⟩
  | .hbm, ⟨82, _⟩ => ⟨S16x576x4x6, .f32⟩
  | .hbm, ⟨83, _⟩ => ⟨S1x1x1x6, .f32⟩
  | .hbm, ⟨84, _⟩ => ⟨S16x576x4x6, .f32⟩
  | .hbm, ⟨85, _⟩ => ⟨S16x576x4x6, .f32⟩
  | .hbm, ⟨86, _⟩ => ⟨S6, .f32⟩
  | .hbm, ⟨87, _⟩ => ⟨S1x1x1x6, .f32⟩
  | .hbm, ⟨88, _⟩ => ⟨S16x576x4x6, .f32⟩
  | .hbm, ⟨89, _⟩ => ⟨S16x576x4x6, .f32⟩
  | .hbm, ⟨90, _⟩ => ⟨S_, .f32⟩
  | .hbm, ⟨91, _⟩ => ⟨S16x576x4, .f32⟩
  | .hbm, ⟨92, _⟩ => ⟨S16x576x4, .i32⟩
  | .hbm, ⟨93, _⟩ => ⟨S16x576x24, .f32⟩
  | .hbm, ⟨94, _⟩ => ⟨S16x576x768, .f32⟩
  | .hbm, ⟨95, _⟩ => ⟨S1x1x768, .f32⟩
  | .hbm, ⟨96, _⟩ => ⟨S16x576x768, .f32⟩
  | .hbm, ⟨97, _⟩ => ⟨S16x576x768, .f32⟩
  | _, _ => ⟨S16x576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_cst_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v5 : Ref sig .tc := ⟨.hbm, 35, rfl⟩
abbrev main_c_3 : Ref sig .tc := ⟨.hbm, 36, rfl⟩
abbrev main_v6 : Ref sig .tc := ⟨.hbm, 37, rfl⟩
abbrev main_v7 : Ref sig .tc := ⟨.hbm, 38, rfl⟩
abbrev main_cst_4 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_7 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩

abbrev nD : Nat := 1
abbrev τ : Topo := Topo.v7x

variable {F : FTy → Type} [FloatOps F]
-- ==== Proof.KernelIdeal.Body.lean ====
/-
The body of the kernel, run once: what it leaves in its two results' blocks and in the scratch of codes, from what its
blocks hold, in the two cases of its one condition (the first of the two points of a row block, and the second).
-/
module

public import proofs.«01_k».proof.Proof.Gen.KernelIdeal.Frame
public import proofs.«01_k».proof.Proof.Gen.KernelIdeal.Skeleton
public import Idealize.ShloMosaic.Lib.Tactic
public import Idealize.ShloMosaic.Lib.Pipeline.Value
public import Idealize.ShloMosaic.Lib.WholeRead
public import Idealize.ShloMosaic.Lib.WordCmp

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's condition: the second grid coordinate is zero. -/
abbrev first (i : grid0.Coords) : Prop := k0_cond1 i = 1#1

/-- It holds at the even points. -/
theorem first_iff (t : Fin cfg0.N) : first (grid0.coords t) ↔ t.val % 2 = 0 := by
  have ht : t.val < 4 := Nat.lt_of_lt_of_eq t.isLt N_0
  have e0 : (grid0.coords t 0).val = t.val / 2 % 2 := Pipeline.Grid.coords_val t 0 (by decide) rfl
  have e1 : (grid0.coords t 1).val = t.val / 1 % 2 := Pipeline.Grid.coords_val t 1 (by decide) rfl
  simp only [first, k0_cond1, e0, e1]
  word_cmp

/-- A row of the table of constants, as the body loads it. -/
abbrev row0 (x : Vec F S6x24 .f32) : Vec F S1x24 .f32 := View.ld x (Rect.unit (s := S6x24) ![0, 0] S1x24.size inb_S6x24_S1x24_0_0)
abbrev row1 (x : Vec F S6x24 .f32) : Vec F S1x24 .f32 := View.ld x (Rect.unit (s := S6x24) ![1, 0] S1x24.size inb_S6x24_S1x24_1_0)
abbrev row2 (x : Vec F S6x24 .f32) : Vec F S1x24 .f32 := View.ld x (Rect.unit (s := S6x24) ![2, 0] S1x24.size inb_S6x24_S1x24_2_0)
abbrev row3 (x : Vec F S6x24 .f32) : Vec F S1x24 .f32 := View.ld x (Rect.unit (s := S6x24) ![3, 0] S1x24.size inb_S6x24_S1x24_3_0)
abbrev row4 (x : Vec F S6x24 .f32) : Vec F S1x24 .f32 := View.ld x (Rect.unit (s := S6x24) ![4, 0] S1x24.size inb_S6x24_S1x24_4_0)
abbrev row5 (x : Vec F S6x24 .f32) : Vec F S1x24 .f32 := View.ld x (Rect.unit (s := S6x24) ![5, 0] S1x24.size inb_S6x24_S1x24_5_0)

/-- The codes the body computes from a block of rows, the first product's operands and the table. -/
def codesOf (x0 : Vec F S4608x768 .f32) (x1 : Vec F S768x24 .f32) (x2 : Vec F S1x24 .f32) (x5 : Vec F S6x24 .f32) : Vec F S4608x24 .f32 :=
  k0_pay4 x0 x1 x2 (row0 x5) (row1 x5) (row2 x5) (row4 x5)

/-- The indices it computes from the same and the table of groups. -/
def idxOf (x0 : Vec F S4608x768 .f32) (x1 : Vec F S768x24 .f32) (x2 : Vec F S1x24 .f32) (x5 : Vec F S6x24 .f32) (x6 : Vec F S24x4 .f32) : Vec F S4608x4 .i32 :=
  k0_pay1 (k0_pay5 x0 x1 x2 (row0 x5) (row1 x5) (row2 x5) (row3 x5) (row5 x5)) x6

theorem zeros2 : (![0, 0] : Fin 2 → ℕ) = fun _ => 0 := by
  funext a; fin_cases a <;> rfl

section Whole

variable {sig : RefSig} {κ : Kind} {sp : Space} {S : Shape} {e : EltTy} {mr : Memref sig κ sp S e}

/-- A load of all of a memref held at contents that read `X` reads `X`. -/
theorem load_all (h : mr.IsWhole) (X : S.Idx → Elt F e) {off : Fin S.rank → ℕ} (h0 : off = fun _ => 0)
    (inb : ∀ a, off a + S.size a ≤ S.size a) :
    View.readAt (Elt F) mr.view (Rect.unit off S.size inb).toLoadRect (h.unread X) = X := by
  rw [View.readAt_eq_ld, h.read_unread]; exact View.ld_unit_zero h0 inb X

/-- A store over all of a memref leaves what it stored. -/
theorem store_all (f : mr.view.ty.Contents (Elt F)) {off : Fin S.rank → ℕ} (h0 : off = fun _ => 0)
    (inb : ∀ a, off a + S.size a ≤ S.size a) (w : S.Idx → Elt F e) :
    mr.view.read (Elt F) (mr.view.writes (Elt F) f [(⟨Rect.unit off S.size inb, w⟩ : View.Piece (Elt F) S e)]) = w := by
  rw [View.read_writes_eq_canon _ _ _ (fun y => ⟨_, List.mem_singleton_self _, View.mem_set_unit_zero h0 inb y⟩),
    View.canon_unit_zero h0]

end Whole

set_option maxHeartbeats 2000000 in
/-- At a first point: from the blocks of the seven operands and any contents of the results' blocks and the scratch, the body
    leaves the product of the codes in the first result's block, the indices in the second's, the codes in the scratch. -/
theorem run_first (c : Dev nD) (i : grid0.Coords) (arg2 : Memref sig .tc .vmem S4608x768 .f32) (harg2 : arg2.IsWhole) (arg3 : Memref sig .tc .vmem S768x24 .f32) (harg3 : arg3.IsWhole) (arg4 : Memref sig .tc .vmem S1x24 .f32) (harg4 : arg4.IsWhole) (arg5 : Memref sig .tc .vmem S24x384 .f32) (harg5 : arg5.IsWhole) (arg6 : Memref sig .tc .vmem S1x384 .f32) (harg6 : arg6.IsWhole) (arg7 : Memref sig .tc .vmem S6x24 .f32) (harg7 : arg7.IsWhole) (arg8 : Memref sig .tc .vmem S24x4 .f32) (harg8 : arg8.IsWhole) (arg9 : Memref sig .tc .vmem S4608x384 .f32) (harg9 : arg9.IsWhole) (arg10 : Memref sig .tc .vmem S4608x4 .i32) (harg10 : arg10.IsWhole) (arg11 : Memref sig .tc .vmem S4608x24 .f32) (harg11 : arg11.IsWhole) (hc0 : first i)
    (x0 : Vec F S4608x768 .f32) (x1 : Vec F S768x24 .f32) (x2 : Vec F S1x24 .f32) (x3 : Vec F S24x384 .f32) (x4 : Vec F S1x384 .f32) (x5 : Vec F S6x24 .f32) (x6 : Vec F S24x4 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (codesOf x0 x1 x2 x5) x3 x4) ∗ owns (c : Thread nD τ) arg10 fullShare (idxOf x0 x1 x2 x5 x6) ∗ owns (c : Thread nD τ) arg11 fullShare (codesOf x0 x1 x2 x5)) -∗ K ⟨⟩))
          ⊢ wp frame (wpE (defs₀ (F := F)) Variants.none c none) E (cc0__fsq_block i arg2 harg2 arg3 harg3 arg4 harg4 arg5 harg5 arg6 harg6 arg7 harg7 arg8 harg8 arg9 harg9 arg10 harg10 arg11 harg11) K := by
  simp only [cc0__fsq_block_eq_skeleton]; unfold cc0__fsq_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [store_all _ zeros2]
    unfold run_first.sl.v3 run_first.sl.HS0_1
    rw [View.readCov_unit_zero _ zeros2, load_all harg5 x3 zeros2, load_all harg6 x4 zeros2]
    rw [load_all harg2 x0 zeros2, load_all harg3 x1 zeros2, load_all harg4 x2 zeros2]
    simp only [View.readAt_eq_ld, harg7.read_unread]
    rfl
  isplitl [H8]
  · iexists _; isplitr; swap; · iexact H8
    ipureintro
    rw [store_all _ zeros2]
    unfold run_first.sl.r
    rw [load_all harg8 x6 zeros2]
    rw [load_all harg2 x0 zeros2, load_all harg3 x1 zeros2, load_all harg4 x2 zeros2]
    simp only [View.readAt_eq_ld, harg7.read_unread]
    rfl
  iexists _; isplitr; swap; · iexact HS0
  ipureintro
  unfold run_first.sl.HS0_1
  rw [store_all _ zeros2]
  rw [load_all harg2 x0 zeros2, load_all harg3 x1 zeros2, load_all harg4 x2 zeros2]
  simp only [View.readAt_eq_ld, harg7.read_unread]
  rfl

set_option maxHeartbeats 2000000 in
/-- At a second point: the scratch holds the codes `s` of the row block; the body leaves their product in the first result's
    block and changes neither the scratch nor the second result's block. -/
theorem run_second (c : Dev nD) (i : grid0.Coords) (arg2 : Memref sig .tc .vmem S4608x768 .f32) (harg2 : arg2.IsWhole) (arg3 : Memref sig .tc .vmem S768x24 .f32) (harg3 : arg3.IsWhole) (arg4 : Memref sig .tc .vmem S1x24 .f32) (harg4 : arg4.IsWhole) (arg5 : Memref sig .tc .vmem S24x384 .f32) (harg5 : arg5.IsWhole) (arg6 : Memref sig .tc .vmem S1x384 .f32) (harg6 : arg6.IsWhole) (arg7 : Memref sig .tc .vmem S6x24 .f32) (harg7 : arg7.IsWhole) (arg8 : Memref sig .tc .vmem S24x4 .f32) (harg8 : arg8.IsWhole) (arg9 : Memref sig .tc .vmem S4608x384 .f32) (harg9 : arg9.IsWhole) (arg10 : Memref sig .tc .vmem S4608x4 .i32) (harg10 : arg10.IsWhole) (arg11 : Memref sig .tc .vmem S4608x24 .f32) (harg11 : arg11.IsWhole) (hc0 : ¬first i)
    (x3 : Vec F S24x384 .f32) (x4 : Vec F S1x384 .f32) (s : Vec F S4608x24 .f32)
    (E : Set ℕ) (K : PUnit → sProp 𝕄) :
        iprop(owns (c : Thread nD τ) arg5 fullShare x3 ∗ owns (c : Thread nD τ) arg6 fullShare x4 ∗ (∃ d, owns (c : Thread nD τ) arg9 fullShare d) ∗ owns (c : Thread nD τ) arg11 fullShare s
            ∗ (iprop(owns (c : Thread nD τ) arg5 fullShare x3 ∗ owns (c : Thread nD τ) arg6 fullShare x4 ∗ owns (c : Thread nD τ) arg9 fullShare (k0_pay2 s x3 x4) ∗ owns (c : Thread nD τ) arg11 fullShare s) -∗ K ⟨⟩))
          ⊢ wp frame (wpE (defs₀ (F := F)) Variants.none c none) E (cc0__fsq_block i arg2 harg2 arg3 harg3 arg4 harg4 arg5 harg5 arg6 harg6 arg7 harg7 arg8 harg8 arg9 harg9 arg10 harg10 arg11 harg11) K := by
  simp only [cc0__fsq_block_eq_skeleton]; unfold cc0__fsq_block_skel
  unfold owns
  iintro ⟨⟨%f3, %hf3, H3⟩, ⟨%f4, %hf4, H4⟩, ⟨%d7, %f7, -, H7⟩, ⟨%fs0, %hs0, HS0⟩, Hk⟩
  obtain rfl := harg5.eq_unread hf3; obtain rfl := harg6.eq_unread hf4; obtain rfl := harg11.eq_unread hs0
  sl_exec (disch := first | sl_exact hc0)
  sl_step
  iapply Hk
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [store_all _ zeros2, load_all harg5 x3 zeros2, load_all harg6 x4 zeros2, load_all harg11 s zeros2]
  iexists _; isplitr; · ipureintro; exact harg11.read_unread _
  iexact HS0

end Cert.KernelIdeal.Value

end
-- ==== Proof.KernelIdeal.Block.lean ====
/-
What one block's payloads are, element by element, over the extended reals: the rounded latent of a row and a lane, its code,
the decoded element, and the index of a row's group.
-/
module

public import proofs.«01_k».proof.Proof.KernelIdeal.Body
public import Idealize.ShloMosaic.Lib.Pointwise

@[expose] public section

set_option maxRecDepth 16384

noncomputable section

namespace Cert.KernelIdeal.Value

open Idealize.ShloMosaic Idealize.ShloMosaic.TcCoe
open Cert.KernelIdeal Cert.KernelIdeal.Gen

/-- The rounded latent of one lane: the hyperbolic tangent of the shifted projection, scaled, offset and rounded. -/
def latent (p s h o : EReal) : EReal := Ideal.liftRound Ideal.roundHalfEven (Ideal.tanh (p + s) * h - o)

/-- The latents of a block, row `r` and lane `l`. -/
theorem latent_apply (x0 : FVec Ideal S4608x768 .f32) (x1 : FVec Ideal S768x24 .f32) (x2 s h o : FVec Ideal S1x24 .f32)
    (r : Fin 4608) (l : Fin 24) :
    k0_pay3 (F := Ideal) x0 x1 x2 s h o (ix2 r l)
      = latent ((∑ k : Fin 768, x0 (ix2 r k) * x1 (ix2 k l)) + x2 (ix2 0 l)) (s (ix2 0 l)) (h (ix2 0 l)) (o (ix2 0 l)) := by
  pointwise [k0_pay3, latent]

/-- The codes of a block: the latent times the table's fifth row. -/
theorem codesOf_apply (x0 : FVec Ideal S4608x768 .f32) (x1 : FVec Ideal S768x24 .f32) (x2 : FVec Ideal S1x24 .f32)
    (x5 : FVec Ideal S6x24 .f32) (r : Fin 4608) (l : Fin 24) :
    codesOf (F := Ideal) x0 x1 x2 x5 (ix2 r l)
      = latent ((∑ k : Fin 768, x0 (ix2 r k) * x1 (ix2 k l)) + x2 (ix2 0 l)) (x5 (ix2 0 l)) (x5 (ix2 1 l)) (x5 (ix2 2 l))
        * x5 (ix2 4 l) := by
  unfold codesOf
  pointwise [k0_pay4, latent_apply, row0, row1, row2, row4]

/-- The decoded block. -/
theorem pay2_apply (c : FVec Ideal S4608x24 .f32) (w : FVec Ideal S24x384 .f32) (b : FVec Ideal S1x384 .f32)
    (r : Fin 4608) (n : Fin 384) :
    k0_pay2 (F := Ideal) c w b (ix2 r n) = (∑ l : Fin 24, c (ix2 r l) * w (ix2 l n)) + b (ix2 0 n) := by
  pointwise [k0_pay2]

/-- The indices of a block: for group `g` the sum over the lanes of the scaled latents times the lane's membership. -/
theorem idxOf_apply (x0 : FVec Ideal S4608x768 .f32) (x1 : FVec Ideal S768x24 .f32) (x2 : FVec Ideal S1x24 .f32)
    (x5 : FVec Ideal S6x24 .f32) (x6 : FVec Ideal S24x4 .f32) (r : Fin 4608) (g : Fin 4) :
    idxOf (F := Ideal) x0 x1 x2 x5 x6 (ix2 r g)
      = Ideal.fptosi 32 (∑ l : Fin 24,
          (latent ((∑ k : Fin 768, x0 (ix2 r k) * x1 (ix2 k l)) + x2 (ix2 0 l)) (x5 (ix2 0 l)) (x5 (ix2 1 l)) (x5 (ix2 2 l))
            + x5 (ix2 3 l)) * x5 (ix2 5 l) * x6 (ix2 l g)) := by
  unfold idxOf
  pointwise [k0_pay1, k0_pay5, latent_apply, row0, row1, row2, row3, row5]
  rfl

end Cert.KernelIdeal.Value

end
-- ==== Proof.KernelIdeal.Run.lean ====
/-
The kernel's run: what each of its blocks holds point by point, the scratch that carries a row block's codes from its first
point to its second, the body's obligation, and the launch.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that point `t` is of. -/
def base (t : Fin cfg0.N) : Fin cfg0.N := ⟨2 * (t.val / 2), lt_of_le_of_lt (by omega) t.isLt⟩

theorem base_of_even (t : Fin cfg0.N) (h : t.val % 2 = 0) : base t = t := Fin.ext (by simp only [base]; omega)

theorem base_pred (t : Fin cfg0.N) (h : t.val % 2 = 1) : base ⟨t.val - 1, lt_of_le_of_lt (Nat.sub_le _ _) t.isLt⟩ = base t :=
  Fin.ext (by simp only [base]; omega)

/-- The codes of point `t`'s row block. -/
def codesAt (c : Dev nD) (t : Fin cfg0.N) : Vec F S4608x24 .f32 :=
  codesOf (iblk m c 0 (base t)) (iblk m c 1 (base t)) (iblk m c 2 (base t)) (iblk m c 5 (base t))

/-- The indices of point `t`'s row block. -/
def idxAt (c : Dev nD) (t : Fin cfg0.N) : Vec F S4608x4 .i32 :=
  idxOf (iblk m c 0 (base t)) (iblk m c 1 (base t)) (iblk m c 2 (base t)) (iblk m c 5 (base t)) (iblk m c 6 (base t))

/-- The first result's block at point `t`. -/
def outAt (c : Dev nD) (t : Fin cfg0.N) : Vec F S4608x384 .f32 := k0_pay2 (codesAt m c t) (iblk m c 3 t) (iblk m c 4 t)

/-- The scratch of codes. -/
abbrev scM : Memref sig .tc .vmem S4608x24 .f32 := Memref.whole cc0_scratch0

/-- What is held between the points: the generator's register, and the scratch — before a second point at the codes its
    first point left, before a first point (and at the end) at anything. -/
def between (c : Dev nD) (t : Fin (cfg0.N + 1)) : sProp 𝕄 :=
  if h : t.val % 2 = 1 then
    iprop(owns (c : Thread nD τ) scM fullShare (codesAt m c ⟨t.val - 1, by have := t.isLt; omega⟩) ∗ (∃ r, prngReg c r))
  else iprop((∃ d, owns (c : Thread nD τ) scM fullShare d) ∗ (∃ r, prngReg c r))

theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => idxAt m c t
  Φ t := between m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = idxAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The second result's window is idle exactly at the second points. -/
theorem idle8 (t : Fin cfg0.N) : cfg0.idle 8 (grid0.coords t) = decide (t.val % 2 = 1) := by
  show (!(k0_cond1 (grid0.coords t) == 1#1)) = _
  by_cases h : t.val % 2 = 0
  · rw [(first_iff t).mpr h]; simp [h]
  · have h1 : ¬ k0_cond1 (grid0.coords t) = 1#1 := fun h' => h ((first_iff t).mp h')
    have h2 : t.val % 2 = 1 := by omega
    simp [h1, h2]

/-- At a second point the second result's block still holds what its first point left. -/
theorem before_8 (c : Dev nD) (t : Fin cfg0.N) (h : t.val % 2 = 1) (d) : (dats m 0 c).before 8 t d = idxAt m c t := by
  have hp : (t.val - 1) % 2 = 0 := by omega
  rw [(dats m 0 c).before_of_pos 8 t (by omega) ((cfg0.win 8).fetch_out rfl t), if_neg]
  · unfold Dat.left
    have hi := idle8 ⟨t.val - 1, Nat.lt_of_le_of_lt (Nat.sub_le _ _) t.isLt⟩
    simp only [hp, Nat.zero_ne_one, decide_false] at hi
    rw [show cfg0.idle 8 (cfg0.grid.coords ⟨t.val - 1, Nat.lt_of_le_of_lt (Nat.sub_le _ _) t.isLt⟩) = false from hi]
    show (dats m 0 c).after 8 _ = _
    rw [after_8]; unfold idxAt; rw [base_pred t h]
  · intro hf
    have := (flush0_8 _).mp hf
    simp only at this; omega

/-- After every point the second result's block holds the row block's indices: a first point stores them, a second keeps
    them. -/
theorem leaves_8 (c : Dev nD) (t : Fin cfg0.N) :
    (dats m 0 c).leavesExact 8 t = owns (c : Thread nD τ) (st0_8 t) fullShare (idxAt m c t) := by
  unfold Dat.leavesExact
  rw [← after_8]
  by_cases h : t.val % 2 = 1
  · rw [show cfg0.idle 8 (cfg0.grid.coords t) = true from (idle8 t).trans (by simp [h]), (flush0_8 t).mpr h]
  · rw [show cfg0.idle 8 (cfg0.grid.coords t) = false from (idle8 t).trans (by simp [h])]

theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (st0_7 t) fullShare (outAt m c t) := by
  unfold Dat.leavesExact; rw [show cfg0.idle 7 (cfg0.grid.coords t) = false from rfl, after_7]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem between_even (c : Dev nD) (t : Fin (cfg0.N + 1)) (h : t.val % 2 = 0) :
    between m c t = iprop((∃ d, owns (c : Thread nD τ) scM fullShare d) ∗ (∃ r, prngReg c r)) := by
  unfold between; rw [dif_neg (by omega)]

theorem between_odd (c : Dev nD) (t : Fin (cfg0.N + 1)) (h : t.val % 2 = 1) :
    between m c t = iprop(owns (c : Thread nD τ) scM fullShare (codesAt m c ⟨t.val - 1, by have := t.isLt; omega⟩) ∗ (∃ r, prngReg c r)) := by
  unfold between; rw [dif_pos h]

set_option maxHeartbeats 1600000 in
/-- The body at a first point. -/
theorem sound_first (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_7, leaves_8]
  rw [show (dats m 0 c).owesAt () t.succ = (dats m 0 c).owesAt () t.castSucc from rfl,
    show (dats m 0 c).Φ t.succ = between m c t.succ from rfl, show (dats m 0 c).Φ t.castSucc = between m c t.castSucc from rfl,
    between_even m c t.castSucc h, between_odd m c t.succ (by rw [Fin.val_succ]; omega)]
  rw [show codesAt m c ⟨t.succ.val - 1, by have := t.succ.isLt; have := t.isLt; rw [Fin.val_succ]; omega⟩ = codesAt m c t from rfl]
  unfold outAt codesAt idxAt
  rw [base_of_even t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ ((first_iff t).mpr h) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a second point. -/
theorem sound_second (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_8 m c t h, leaves_0, leaves_1, leaves_2, leaves_3, leaves_4, leaves_5, leaves_6, leaves_7, leaves_8]
  rw [show (dats m 0 c).owesAt () t.succ = (dats m 0 c).owesAt () t.castSucc from rfl,
    show (dats m 0 c).Φ t.succ = between m c t.succ from rfl, show (dats m 0 c).Φ t.castSucc = between m c t.castSucc from rfl,
    between_odd m c t.castSucc h, between_even m c t.succ (by rw [Fin.val_succ]; omega)]
  rw [show codesAt m c ⟨t.castSucc.val - 1, by have := t.isLt; rw [Fin.val_castSucc]; omega⟩ = codesAt m c t from by
    unfold codesAt; rw [← base_pred t h]; rfl]
  unfold outAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_second c (grid0.coords t) _ _ _ _ _ _ _ _ _ _ _ _ _ _ _ _ _ _ _ _ (fun h' => by have := (first_iff t).mp h'; omega) (iblk m c 3 t) (iblk m c 4 t) (codesAt m c t) Set.univ _)
  isplitl [H3]; · iexact H3
  isplitl [H4]; · iexact H4
  isplitl [H7]; · iexists _; iexact H7
  isplitl [HS0]; · iexact HS0
  iintro ⟨H3, H4, H7, HS0⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  rcases Nat.mod_two_eq_zero_or_one t.val with h | h
  · exact triple_restated (sound_first m c t h) rfl .rfl fun _ => .rfl
  · exact triple_restated (sound_second m c t h) rfl .rfl fun _ => .rfl

set_option backward.isDefEq.respectTransparency.types false in
set_option maxHeartbeats 800000 in
/-- The launch: every run ends, with the arrays as the points' blocks make them, the later lines' results after them, and
    every semaphore counter at zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) (hQ' := fun _ h => h) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [PhiA_eq, show (dats m 0 c).Φ 0 = between m c 0 from rfl, between_even m c 0 rfl])
    (hout := fun c => by
      rw [PhiA_eq, show (dats m 0 c).Φ (Fin.last cfg0.N) = between m c (Fin.last cfg0.N) from rfl,
        between_even m c (Fin.last cfg0.N) (by rw [Fin.val_last, show cfg0.N = 4 from N_0])])

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Value

end
-- ==== Proof.KernelIdeal.Arrays.lean ====
/-
The kernel's two result arrays: every element as a function of the arrays the launch finds, and the blocks the grid writes back
as the blocks of those arrays.
-/
module

public import proofs.«01_k».proof.Proof.KernelIdeal.Block
public import proofs.«01_k».proof.Proof.KernelIdeal.Run
public import Idealize.ShloMosaic.Lib.Pipeline.Value

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-! ## The arrays as functions of the operands -/

section Functions

variable (z : FVec Ideal S9216x768 .f32) (w : FVec Ideal S768x24 .f32) (b : FVec Ideal S1x24 .f32)
variable (wo : FVec Ideal S24x768 .f32) (bo : FVec Ideal S1x768 .f32) (tb : FVec Ideal S6x24 .f32) (sl : FVec Ideal S24x4 .f32)

/-- The rounded latent of row `r` and lane `l`. -/
def rowLatent (r : Fin 9216) (l : Fin 24) : EReal :=
  latent ((∑ k : Fin 768, z (ix2 r k) * w (ix2 k l)) + b (ix2 0 l)) (tb (ix2 0 l)) (tb (ix2 1 l)) (tb (ix2 2 l))

/-- The decoded array. -/
def outRows : FVec Ideal S9216x768 .f32 := fun i =>
  (∑ l : Fin 24, rowLatent z w b tb (i 0) l * tb (ix2 4 l) * wo (ix2 l (i 1))) + bo (ix2 0 (i 1))

/-- The index array. -/
def idxRows : IVec S9216x4 32 := fun i =>
  Ideal.fptosi 32 (∑ l : Fin 24, (rowLatent z w b tb (i 0) l + tb (ix2 3 l)) * tb (ix2 5 l) * sl (ix2 l (i 1)))

end Functions

variable (m : (ℓ : Loc nD τ sig) → Buf (Elt Ideal) ℓ) (ρ : Dev nD → PrngReg)

/-- What the launch finds in its operands' arrays, in order: rows, first weights, first bias, second weights, second bias,
    table, groups. -/
abbrev zV (c : Dev nD) : FVec Ideal S9216x768 .f32 := V m c main_v4
abbrev wV (c : Dev nD) : FVec Ideal S768x24 .f32 := V m c main_arg1
abbrev bV (c : Dev nD) : FVec Ideal S1x24 .f32 := V m c main_v15
abbrev woV (c : Dev nD) : FVec Ideal S24x768 .f32 := V m c main_arg3
abbrev boV (c : Dev nD) : FVec Ideal S1x768 .f32 := V m c main_v16
abbrev tbV (c : Dev nD) : FVec Ideal S6x24 .f32 := V m c main_v14
abbrev slV (c : Dev nD) : FVec Ideal S24x4 .f32 := V m c main_cst_5

/-! ## The operands' blocks -/

/-- Where every window's block of point `t` begins. -/
theorem starts : ∀ t : Fin grid0.N,
    (win0_0.index t 0 * win0_0.size 0 = t.val / 2 * 4608 ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = t.val % 2 * 384)
    ∧ (win0_4.index t 0 * win0_4.size 0 = 0 ∧ win0_4.index t 1 * win0_4.size 1 = t.val % 2 * 384)
    ∧ (win0_5.index t 0 * win0_5.size 0 = 0 ∧ win0_5.index t 1 * win0_5.size 1 = 0)
    ∧ (win0_6.index t 0 * win0_6.size 0 = 0 ∧ win0_6.index t 1 * win0_6.size 1 = 0)
    ∧ (win0_7.index t 0 * win0_7.size 0 = t.val / 2 * 4608 ∧ win0_7.index t 1 * win0_7.size 1 = t.val % 2 * 384)
    ∧ (win0_8.index t 0 * win0_8.size 0 = t.val / 2 * 4608 ∧ win0_8.index t 1 * win0_8.size 1 = 0) := by
  intro t
  rcases fin_N0 t with rfl | rfl | rfl | rfl <;> decide +kernel

theorem lt_four (t : Fin cfg0.N) : t.val < 4 := lt_of_lt_of_eq t.isLt N_0

/-- Row `r` of the row block of point `t`. -/
def rowOf (t : Fin cfg0.N) (r : Fin 4608) : Fin 9216 :=
  ⟨t.val / 2 * 4608 + r.val, by have := lt_four t; have := r.isLt; omega⟩

/-- Column `n` of the column block of point `t`. -/
def colOf (t : Fin cfg0.N) (n : Fin 384) : Fin 768 :=
  ⟨t.val % 2 * 384 + n.val, by have := n.isLt; omega⟩

theorem rowOf_base (t : Fin cfg0.N) (r : Fin 4608) : rowOf (base t) r = rowOf t r :=
  Fin.ext (by show 2 * (t.val / 2) / 2 * 4608 + r.val = t.val / 2 * 4608 + r.val; omega)

theorem blk0 (c : Dev nD) (t : Fin cfg0.N) (r : Fin 4608) (k : Fin 768) :
    iblk m c 0 t (ix2 r k) = zV m c (ix2 (rowOf t r) k) := by
  refine congrArg (zV m c) (funext fun a => Fin.ext ?_)
  match a with
  | ⟨0, _⟩ => show win0_0.index t 0 * win0_0.size 0 + 1 * r.val = t.val / 2 * 4608 + r.val; rw [(starts t).1.1]; omega
  | ⟨1, _⟩ => show win0_0.index t 1 * win0_0.size 1 + 1 * k.val = k.val; rw [(starts t).1.2]; omega

theorem blk1 (c : Dev nD) (t : Fin cfg0.N) (k : Fin 768) (l : Fin 24) :
    iblk m c 1 t (ix2 k l) = wV m c (ix2 k l) := by
  refine congrArg (wV m c) (funext fun a => Fin.ext ?_)
  match a with
  | ⟨0, _⟩ => show win0_1.index t 0 * win0_1.size 0 + 1 * k.val = k.val; rw [(starts t).2.1.1]; omega
  | ⟨1, _⟩ => show win0_1.index t 1 * win0_1.size 1 + 1 * l.val = l.val; rw [(starts t).2.1.2]; omega

theorem blk2 (c : Dev nD) (t : Fin cfg0.N) (k : Fin 1) (l : Fin 24) :
    iblk m c 2 t (ix2 k l) = bV m c (ix2 k l) := by
  refine congrArg (bV m c) (funext fun a => Fin.ext ?_)
  match a with
  | ⟨0, _⟩ => show win0_2.index t 0 * win0_2.size 0 + 1 * k.val = k.val; rw [(starts t).2.2.1.1]; omega
  | ⟨1, _⟩ => show win0_2.index t 1 * win0_2.size 1 + 1 * l.val = l.val; rw [(starts t).2.2.1.2]; omega

theorem blk3 (c : Dev nD) (t : Fin cfg0.N) (l : Fin 24) (n : Fin 384) :
    iblk m c 3 t (ix2 l n) = woV m c (ix2 l (colOf t n)) := by
  refine congrArg (woV m c) (funext fun a => Fin.ext ?_)
  match a with
  | ⟨0, _⟩ => show win0_3.index t 0 * win0_3.size 0 + 1 * l.val = l.val; rw [(starts t).2.2.2.1.1]; omega
  | ⟨1, _⟩ => show win0_3.index t 1 * win0_3.size 1 + 1 * n.val = t.val % 2 * 384 + n.val; rw [(starts t).2.2.2.1.2]; omega

theorem blk4 (c : Dev nD) (t : Fin cfg0.N) (k : Fin 1) (n : Fin 384) :
    iblk m c 4 t (ix2 k n) = boV m c (ix2 k (colOf t n)) := by
  refine congrArg (boV m c) (funext fun a => Fin.ext ?_)
  match a with
  | ⟨0, _⟩ => show win0_4.index t 0 * win0_4.size 0 + 1 * k.val = k.val; rw [(starts t).2.2.2.2.1.1]; omega
  | ⟨1, _⟩ => show win0_4.index t 1 * win0_4.size 1 + 1 * n.val = t.val % 2 * 384 + n.val; rw [(starts t).2.2.2.2.1.2]; omega

theorem blk5 (c : Dev nD) (t : Fin cfg0.N) (k : Fin 6) (l : Fin 24) :
    iblk m c 5 t (ix2 k l) = tbV m c (ix2 k l) := by
  refine congrArg (tbV m c) (funext fun a => Fin.ext ?_)
  match a with
  | ⟨0, _⟩ => show win0_5.index t 0 * win0_5.size 0 + 1 * k.val = k.val; rw [(starts t).2.2.2.2.2.1.1]; omega
  | ⟨1, _⟩ => show win0_5.index t 1 * win0_5.size 1 + 1 * l.val = l.val; rw [(starts t).2.2.2.2.2.1.2]; omega

theorem blk6 (c : Dev nD) (t : Fin cfg0.N) (l : Fin 24) (g : Fin 4) :
    iblk m c 6 t (ix2 l g) = slV m c (ix2 l g) := by
  refine congrArg (slV m c) (funext fun a => Fin.ext ?_)
  match a with
  | ⟨0, _⟩ => show win0_6.index t 0 * win0_6.size 0 + 1 * l.val = l.val; rw [(starts t).2.2.2.2.2.2.1.1]; omega
  | ⟨1, _⟩ => show win0_6.index t 1 * win0_6.size 1 + 1 * g.val = g.val; rw [(starts t).2.2.2.2.2.2.1.2]; omega

/-! ## What is written back -/

/-- The decoded array of device `c`'s operands, and its index array. -/
abbrev outV (c : Dev nD) : FVec Ideal S9216x768 .f32 := outRows (zV m c) (wV m c) (bV m c) (woV m c) (boV m c) (tbV m c)
abbrev idxV (c : Dev nD) : IVec S9216x4 32 := idxRows (zV m c) (wV m c) (bV m c) (tbV m c) (slV m c)

/-- The block of decoded elements of point `t`. -/
theorem outAt_apply (c : Dev nD) (t : Fin cfg0.N) (r : Fin 4608) (n : Fin 384) :
    outAt m c t (ix2 r n) = outV m c (ix2 (rowOf t r) (colOf t n)) := by
  unfold outAt codesAt outV outRows rowLatent
  rw [pay2_apply]
  refine congrArg₂ (· + ·) (Finset.sum_congr rfl fun l _ => congrArg₂ (· * ·) ?_ (blk3 m c t l n)) (blk4 m c t 0 n)
  refine (codesOf_apply _ _ _ _ r l).trans ?_
  simp only [blk0, blk1, blk2, blk5, rowOf_base, ix2_0]

/-- The block of indices of point `t`. -/
theorem idxAt_apply (c : Dev nD) (t : Fin cfg0.N) (r : Fin 4608) (g : Fin 4) :
    idxAt m c t (ix2 r g) = idxV m c (ix2 (rowOf t r) g) := by
  unfold idxAt idxV idxRows rowLatent
  refine (idxOf_apply _ _ _ _ _ r g).trans ?_
  simp only [blk0, blk1, blk2, blk5, blk6, rowOf_base, ix2_0, ix2_1]

/-- What point `t` writes back of the first result is its block of the decoded array. -/
theorem flushed7 (c : Dev nD) (t : Fin cfg0.N) :
    (dats m 0 c).flushed 7 t = ((cfg0.win 7).blk t).view.read (Elt Ideal) (outV m c) := by
  show (cfg0.win 7).cut (grid0.coords t) ((dats m 0 c).after 7 t) = _
  rw [after_7]
  refine funext fun (j : S4608x384.Idx) => ?_
  idx_vars j
  refine (outAt_apply m c t j0 j1).trans (congrArg (outV m c) (funext fun a => Fin.ext ?_))
  match a with
  | ⟨0, _⟩ => show t.val / 2 * 4608 + j0.val = win0_7.index t 0 * win0_7.size 0 + 1 * j0.val
              rw [(starts t).2.2.2.2.2.2.2.1.1]; omega
  | ⟨1, _⟩ => show t.val % 2 * 384 + j1.val = win0_7.index t 1 * win0_7.size 1 + 1 * j1.val
              rw [(starts t).2.2.2.2.2.2.2.1.2]; omega

/-- What point `t` writes back of the second result is its block of the index array. -/
theorem flushed8 (c : Dev nD) (t : Fin cfg0.N) :
    (dats m 0 c).flushed 8 t = ((cfg0.win 8).blk t).view.read (Elt Ideal) (idxV m c) := by
  show (cfg0.win 8).cut (grid0.coords t) ((dats m 0 c).after 8 t) = _
  rw [after_8]
  refine funext fun (j : S4608x4.Idx) => ?_
  idx_vars j
  refine (idxAt_apply m c t j0 j1).trans (congrArg (idxV m c) (funext fun a => Fin.ext ?_))
  match a with
  | ⟨0, _⟩ => show t.val / 2 * 4608 + j0.val = win0_8.index t 0 * win0_8.size 0 + 1 * j0.val
              rw [(starts t).2.2.2.2.2.2.2.2.1]; omega
  | ⟨1, _⟩ => show j1.val = win0_8.index t 1 * win0_8.size 1 + 1 * j1.val
              rw [(starts t).2.2.2.2.2.2.2.2.2]; omega

/-! ## The blocks cover the arrays -/

theorem extents : ∀ t : Fin grid0.N,
    (win0_7.xsize (grid0.coords t) 0 = 4608 ∧ win0_7.xsize (grid0.coords t) 1 = 384)
    ∧ (win0_8.xsize (grid0.coords t) 0 = 4608 ∧ win0_8.xsize (grid0.coords t) 1 = 4) := by
  intro t
  rcases fin_N0 t with rfl | rfl | rfl | rfl <;> decide +kernel

theorem mem7 (t : Fin cfg0.N) (i : S9216x768.Idx) (h0 : t.val / 2 * 4608 ≤ (i 0 : Nat) ∧ (i 0 : Nat) < t.val / 2 * 4608 + 4608)
    (h1 : t.val % 2 * 384 ≤ (i 1 : Nat) ∧ (i 1 : Nat) < t.val % 2 * 384 + 384) : i ∈ ((cfg0.win 7).blk t).view.set := by
  show i ∈ ((View.whole main_v17_0).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + win0_7.xsize (grid0.coords t) 0
              rw [(starts t).2.2.2.2.2.2.2.1.1, (extents t).1.1]; exact h0
  | ⟨1, _⟩ => show win0_7.index t 1 * win0_7.size 1 ≤ (i 1 : Nat) ∧ (i 1 : Nat) < win0_7.index t 1 * win0_7.size 1 + win0_7.xsize (grid0.coords t) 1
              rw [(starts t).2.2.2.2.2.2.2.1.2, (extents t).1.2]; exact h1

theorem mem8 (t : Fin cfg0.N) (i : S9216x4.Idx) (h0 : t.val / 2 * 4608 ≤ (i 0 : Nat) ∧ (i 0 : Nat) < t.val / 2 * 4608 + 4608) :
    i ∈ ((cfg0.win 8).blk t).view.set := by
  show i ∈ ((View.whole main_v17_1).slice (win0_8.rect t)).set
  rw [View.set_slice_whole, Rect.mem_set_unit]
  have h1 : (i 1 : Nat) < 4 := (i 1).isLt
  intro a
  match a with
  | ⟨0, _⟩ => show win0_8.index t 0 * win0_8.size 0 ≤ (i 0 : Nat) ∧ (i 0 : Nat) < win0_8.index t 0 * win0_8.size 0 + win0_8.xsize (grid0.coords t) 0
              rw [(starts t).2.2.2.2.2.2.2.2.1, (extents t).2.1]; exact h0
  | ⟨1, _⟩ => show win0_8.index t 1 * win0_8.size 1 ≤ (i 1 : Nat) ∧ (i 1 : Nat) < win0_8.index t 1 * win0_8.size 1 + win0_8.xsize (grid0.coords t) 1
              rw [(starts t).2.2.2.2.2.2.2.2.2, (extents t).2.2]; omega

/-- After the launch the first result's array is the decoded array, -/
theorem final7 (c : Dev nD) : (dats m 0 c).arrAt 7 cfg0.N = outV m c :=
  (dats m 0 c).arrAt_eq_of_cover 7 (outV m c) (fun t _ => flushed7 m c t) fun (i : S9216x768.Idx) => by
    have h0 : (i 0 : Nat) < 9216 := (i 0).isLt
    have h1 : (i 1 : Nat) < 768 := (i 1).isLt
    have ht : 2 * ((i 0 : Nat) / 4608) + (i 1 : Nat) / 384 < 4 := by omega
    refine ⟨⟨2 * ((i 0 : Nat) / 4608) + (i 1 : Nat) / 384, lt_of_lt_of_eq ht N_0.symm⟩, flush0_7 _, mem7 _ i ?_ ?_⟩
    · dsimp only; omega
    · dsimp only; omega

/-- and the second result's the index array. -/
theorem final8 (c : Dev nD) : (dats m 0 c).arrAt 8 cfg0.N = idxV m c :=
  (dats m 0 c).arrAt_eq_of_cover 8 (idxV m c) (fun t _ => flushed8 m c t) fun (i : S9216x4.Idx) => by
    have h0 : (i 0 : Nat) < 9216 := (i 0).isLt
    have ht : 2 * ((i 0 : Nat) / 4608) + 1 < 4 := by omega
    refine ⟨⟨2 * ((i 0 : Nat) / 4608) + 1, lt_of_lt_of_eq ht N_0.symm⟩, (flush0_8 _).mpr (by dsimp only; omega), mem8 _ i ?_⟩
    dsimp only; omega

end Cert.KernelIdeal.Value

end
-- ==== Proof.KernelIdeal.Host.lean ====
/-
What the host operations before the launch leave in its operands' arrays, element by element.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.KernelIdeal.Value

open Idealize.ShloMosaic Idealize.ShloMosaic.TcCoe Idealize.ShloMosaic.StableHlo Idealize.SL.Sem
open Cert.KernelIdeal Cert.KernelIdeal.Gen

section Arrays

variable {F : FTy → Type} [FloatOps F]
variable (m : (ℓ : Loc nD τ sig) → Buf (Elt F) ℓ)

/-- The levels of the lanes, less one, times the widening factor, halved. -/
def halfRow : FVec F S24 .f32 :=
  Host.divf (mulf (subf (fun i => FloatOps.ofBits .f32 (lit0 (S24.rowMajor i))) (broadcastInDim S24 ![] bcast_S_S24 (constant S_ .f32 0x3F800000#32)))
    (broadcastInDim S24 ![] bcast_S_S24 (constant S_ .f32 0x3F8020C5#32))) (broadcastInDim S24 ![] bcast_S_S24 (constant S_ .f32 0x40000000#32))

/-- A constant row of lanes, as a row of the table. -/
def litRow (lit : Fin 24 → BitVec 32) : FVec F S1x24 .f32 :=
  broadcastInDim S1x24 ![1] bcast_S24_S1x24_1 (fun i => FloatOps.ofBits .f32 (lit (S24.rowMajor i)))

/-- The table: shift, half level, offset, half width, its inverse, basis. -/
def table : FVec F S6x24 .f32 :=
  concatenate S6x24 0
    [⟨S1x24, Host.atanh (Host.divf (litRow lit1) (broadcastInDim S1x24 ![1] bcast_S24_S1x24_1 halfRow))⟩,
     ⟨S1x24, broadcastInDim S1x24 ![1] bcast_S24_S1x24_1 halfRow⟩, ⟨S1x24, litRow lit2⟩, ⟨S1x24, litRow lit3⟩,
     ⟨S1x24, fun i => FloatOps.ofBits .f32 (lit4 (S1x24.rowMajor i))⟩, ⟨S1x24, litRow lit5⟩] concatenates_S1x24_S1x24_S1x24_S1x24_S1x24_S1x24_S6x24_d0

theorem V_rows (c : Dev nD) :
    V m c main_v4 = shapeCast S9216x768 (m ((c : Thread nD τ).loc main_arg0)) shapeCasts_S16x576x768_S9216x768 := by
  show StableHlo.after _ _ _ = _
  simp only [hostOps0, List.flatten_cons, List.flatten_nil, List.append_nil]
  after_results
  all_goals rfl

theorem V_bias (c : Dev nD) :
    V m c main_v15 = shapeCast S1x24 (m ((c : Thread nD τ).loc main_arg2)) shapeCasts_S24_S1x24 := by
  show StableHlo.after _ _ _ = _
  simp only [hostOps0, List.flatten_cons, List.flatten_nil, List.append_nil]
  after_results
  all_goals rfl

theorem V_outBias (c : Dev nD) :
    V m c main_v16 = shapeCast S1x768 (m ((c : Thread nD τ).loc main_arg4)) shapeCasts_S768_S1x768 := by
  show StableHlo.after _ _ _ = _
  simp only [hostOps0, List.flatten_cons, List.flatten_nil, List.append_nil]
  after_results
  all_goals rfl

theorem V_groups (c : Dev nD) :
    V m c main_cst_5 = fun i => FloatOps.ofBits .f32 (lit6 (S24x4.rowMajor i)) := by
  show StableHlo.after _ _ _ = _
  simp only [hostOps0, List.flatten_cons, List.flatten_nil, List.append_nil]
  after_results
  all_goals rfl

theorem V_table (c : Dev nD) : V m c main_v14 = table := by
  show StableHlo.after _ _ _ = _
  simp only [hostOps0, List.flatten_cons, List.flatten_nil, List.append_nil]
  after_results
  all_goals rfl

end Arrays

/-! ## The table's rows, lane by lane -/

theorem rowMajor24 (l : Fin 24) : S24.rowMajor (ix1 l) = l :=
  Fin.ext ((by decide : ∀ l : Fin 24, (S24.rowMajor (ix1 l)).val = l.val) l)
theorem rowMajor1x24 (l : Fin 24) : S1x24.rowMajor (ix2 0 l) = l :=
  Fin.ext ((by decide : ∀ l : Fin 24, (S1x24.rowMajor (ix2 0 l)).val = l.val) l)
theorem rowMajor24x4 (l : Fin 24) (g : Fin 4) :
    S24x4.rowMajor (ix2 l g) = (⟨4 * l.val + g.val, by have := l.isLt; have := g.isLt; omega⟩ : Fin 96) :=
  Fin.ext ((by decide : ∀ (l : Fin 24) (g : Fin 4), (S24x4.rowMajor (ix2 l g)).val = 4 * l.val + g.val) l g)

/-- The half level of a lane. -/
def halfAt (l : Fin 24) : EReal :=
  Ideal.div ((Ideal.ofBits .f32 (lit0 l) - 1) * Ideal.ofBits .f32 0x3F8020C5#32) (Ideal.ofBits .f32 0x40000000#32)

theorem halfRow_apply (l : Fin 24) : halfRow (F := Ideal) (ix1 l) = halfAt l := by
  pointwise [halfRow, halfAt]
  rw [rowMajor24]

theorem table0 (l : Fin 24) :
    table (F := Ideal) (ix2 0 l) = Ideal.atanh (Ideal.div (Ideal.ofBits .f32 (lit1 l)) (halfAt l)) := by
  pointwise [table, litRow, halfRow_apply]
  rw [rowMajor24]
theorem table1 (l : Fin 24) : table (F := Ideal) (ix2 1 l) = halfAt l := by
  pointwise [table, litRow, halfRow_apply]
theorem table2 (l : Fin 24) : table (F := Ideal) (ix2 2 l) = Ideal.ofBits .f32 (lit2 l) := by
  pointwise [table, litRow, halfRow_apply]
  rw [rowMajor24]
theorem table3 (l : Fin 24) : table (F := Ideal) (ix2 3 l) = Ideal.ofBits .f32 (lit3 l) := by
  pointwise [table, litRow, halfRow_apply]
  rw [rowMajor24]
theorem table4 (l : Fin 24) : table (F := Ideal) (ix2 4 l) = Ideal.ofBits .f32 (lit4 l) := by
  pointwise [table, litRow, halfRow_apply]
  rw [rowMajor1x24]
theorem table5 (l : Fin 24) : table (F := Ideal) (ix2 5 l) = Ideal.ofBits .f32 (lit5 l) := by
  pointwise [table, litRow, halfRow_apply]
  rw [rowMajor24]

/-! ## The reshaped operands and the groups, element by element -/

theorem rows_apply (x : FVec Ideal S16x576x768 .f32) (r : Fin 9216) (k : Fin 768) :
    shapeCast S9216x768 x shapeCasts_S16x576x768_S9216x768 (ix2 r k)
      = x (ix3 ⟨r.val / 576, by have := r.isLt; omega⟩ ⟨r.val % 576, Nat.mod_lt _ (by decide)⟩ k) := by
  pointwise

theorem bias_apply (x : FVec Ideal S24 .f32) (l : Fin 24) : shapeCast S1x24 x shapeCasts_S24_S1x24 (ix2 0 l) = x (ix1 l) := by
  pointwise

theorem outBias_apply (x : FVec Ideal S768 .f32) (n : Fin 768) :
    shapeCast S1x768 x shapeCasts_S768_S1x768 (ix2 0 n) = x (ix1 n) := by
  pointwise

theorem outShape_apply (x : FVec Ideal S9216x768 .f32) (b : Fin 16) (s : Fin 576) (n : Fin 768) :
    shapeCast S16x576x768 x shapeCasts_S9216x768_S16x576x768 (ix3 b s n)
      = x (ix2 ⟨b.val * 576 + s.val, by have := b.isLt; have := s.isLt; omega⟩ n) := by
  pointwise

theorem idxShape_apply (x : IVec S9216x4 32) (b : Fin 16) (s : Fin 576) (g : Fin 4) :
    shapeCast S16x576x4 x shapeCasts_S9216x4_S16x576x4 (ix3 b s g)
      = x (ix2 ⟨b.val * 576 + s.val, by have := b.isLt; have := s.isLt; omega⟩ g) := by
  pointwise

end Cert.KernelIdeal.Value

end
-- ==== Proof.KernelIdeal.Results.lean ====
/-
The kernel's two results after its run: the decoded array and the index array of its operands, in the results' shapes.
-/
module

public import proofs.«01_k».proof.Proof.KernelIdeal.Arrays
public import proofs.«01_k».proof.Proof.KernelIdeal.Host

@[expose] public section

set_option maxRecDepth 16384

noncomputable section

namespace Cert.KernelIdeal.Value

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

theorem arrays_distinct : Function.Injective (Pipeline.arrRef spec0) := by decide

/-- The first result is the launch's first array, reshaped. -/
theorem tail_out (c : Dev nD) :
    Pipeline.afterTail₀ cfgs (dats m) 0 (V0 m) [hostOps1] c main_v18
      = shapeCast S16x576x768 (outV m c) shapeCasts_S9216x768_S16x576x768 := by
  unfold Pipeline.afterTail₀
  simp only [hostOps1, List.flatten_cons, List.flatten_nil, List.append_nil]
  after_results
  refine congrArg (fun x => shapeCast S16x576x768 x shapeCasts_S9216x768_S16x576x768) ?_
  exact (Pipeline.withArrays_arr spec0 arrays_distinct c (V0 m c) (fun w => (dats m 0 c).arrAt w cfg0.N) 7).trans (final7 m c)

/-- The second result is the launch's second array, reshaped. -/
theorem tail_idx (c : Dev nD) :
    Pipeline.afterTail₀ cfgs (dats m) 0 (V0 m) [hostOps1] c main_v19
      = shapeCast S16x576x4 (idxV m c) shapeCasts_S9216x4_S16x576x4 := by
  unfold Pipeline.afterTail₀
  simp only [hostOps1, List.flatten_cons, List.flatten_nil, List.append_nil]
  after_results
  refine congrArg (fun x => shapeCast S16x576x4 x shapeCasts_S9216x4_S16x576x4) ?_
  exact (Pipeline.withArrays_arr spec0 arrays_distinct c (V0 m c) (fun w => (dats m 0 c).arrAt w cfg0.N) 8).trans (final8 m c)

/-- The kernel's run: both results at their functions of the operands, the arguments unchanged. -/
theorem run : θ_run defs (onTc (τ := τ) (main (F := Ideal))) ⟨m, fun _ => 0, ρ⟩ fun r => ∀ c : Dev nD,
      r.2.mem ((c.tc : Thread nD τ).loc main_v18) = shapeCast S16x576x768 (outV m c) shapeCasts_S9216x768_S16x576x768
      ∧ r.2.mem ((c.tc : Thread nD τ).loc main_v19) = shapeCast S16x576x4 (idxV m c) shapeCasts_S9216x4_S16x576x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).2 main_v18 (Pipeline.mem_restRefs_of main_v18 (by decide) (by decide))).trans (tail_out m c),
       ((h.1 c).2 main_v19 (Pipeline.mem_restRefs_of main_v19 (by decide) (by decide))).trans (tail_idx m c),
       ((h.1 c).2 main_arg0 (Pipeline.mem_restRefs_of main_arg0 (by decide) (by decide))).trans (W_main_arg0 m (dats m) c),
       ((h.1 c).1 1).trans (((dats m 0 c).arrAt_in 1 rfl _).trans ((A_eq m c 1).trans (V_main_arg1 m c))),
       ((h.1 c).2 main_arg2 (Pipeline.mem_restRefs_of main_arg2 (by decide) (by decide))).trans (W_main_arg2 m (dats m) c),
       ((h.1 c).1 3).trans (((dats m 0 c).arrAt_in 3 rfl _).trans ((A_eq m c 3).trans (V_main_arg3 m c))),
       ((h.1 c).2 main_arg4 (Pipeline.mem_restRefs_of main_arg4 (by decide) (by decide))).trans (W_main_arg4 m (dats m) c)⟩)
    (run_main_quiescent m ρ)

end Cert.KernelIdeal.Value

end
-- ==== Proof.ReferenceIdeal.Reading.lean ====
/-
The reference's two results, named step by step and read element by element.
-/
module

public import proofs.«01_k».proof.Proof.Gen.ReferenceIdeal.Run
public import Idealize.ShloMosaic.Lib.Pointwise

@[expose] public section

set_option maxRecDepth 16384

noncomputable section

namespace Cert.ReferenceIdeal.Reading

open Idealize.ShloMosaic Idealize.ShloMosaic.TcCoe Idealize.SL.Sem
open Cert.ReferenceIdeal Cert.ReferenceIdeal.Gen Cert.ReferenceIdeal.Value

/-! ## The rows of the six levels -/

/-- The levels, and an integer word along them. -/
def levels : IVec S6 32 := fun i => lit0 (S6.rowMajor i)
def along (v : IVec S_ 32) : IVec S6 32 := broadcastInDim S6 ![] bcast_S_S6 v
def two : IVec S_ 32 := id (constantI S_ 32 2#32)

/-- The levels modulo two, as the host library spells it. -/
def divisor : IVec S_ 32 := select (cmpi .eq two (constantI S_ 32 0#32)) (constantI S_ 32 1#32) two
def remainder : IVec S6 32 := Host.remsi levels (along divisor)
def parity : IVec S6 32 :=
  select (andi (cmpi .ne (cmpi .slt remainder (along (constantI S_ 32 0#32)))
      (broadcastInDim S6 ![] bcast_S_S6 (cmpi .slt divisor (constantI S_ 32 0#32))))
    (cmpi .ne remainder (along (constantI S_ 32 0#32)))) (addi remainder (along divisor)) remainder

/-- The levels halved downwards, as the host library spells it. -/
def quotient : IVec S6 32 := Host.divsi levels (along two)
def halved : IVec S6 32 :=
  select (andi (cmpi .ne (signi levels) (along (signi two))) (cmpi .ne (Host.remsi levels (along two)) (along (constantI S_ 32 0#32))))
    (subi quotient (along (constantI S_ 32 1#32))) quotient

section Rows

variable {F : FTy → Type} [FloatOps F]

/-- A constant word along the levels. -/
def word (b : BitVec 32) : FVec F S6 .f32 := broadcastInDim S6 ![] bcast_S_S6 (constant S_ .f32 b)

def halfRow : FVec F S6 .f32 :=
  Host.divf (mulf (subf (sitofp .f32 levels) (word 0x3F800000#32)) (word 0x3F8020C5#32)) (word 0x40000000#32)
def offsetRow : FVec F S6 .f32 :=
  select (cmpi .eq parity (along (constantI S_ 32 0#32))) (word 0x3F000000#32) (word 0x00000000#32)
def shiftRow : FVec F S6 .f32 := Host.atanh (Host.divf (id offsetRow) halfRow)
def widthRow : FVec F S6 .f32 := sitofp .f32 halved
def basisRow : FVec F S6 .f32 := sitofp .f32 ((fun i => lit1 (S6.rowMajor i)) : IVec S6 32)

/-- A row of the levels along all tokens and codebooks. -/
def spread (v : FVec F S6 .f32) : FVec F S16x576x4x6 .f32 :=
  broadcastInDim S16x576x4x6 ![0, 1, 2, 3] bcast_S1x1x1x6_S16x576x4x6_0_1_2_3 (broadcastInDim S1x1x1x6 ![3] bcast_S6_S1x1x1x6_3 v)

/-! ## The results' terms -/

variable (z : FVec F S16x576x768 .f32) (w : FVec F S768x24 .f32) (b : FVec F S24 .f32)
variable (wo : FVec F S24x768 .f32) (bo : FVec F S768 .f32)

def projected : FVec F S16x576x4x6 .f32 :=
  shapeCast S16x576x4x6 (addf (Host.dotGeneral dot_S16x576x768_S768x24_S16x576x24_2_0_01_1_n_n none z w)
    (broadcastInDim S16x576x24 ![0, 1, 2] bcast_S1x1x24_S16x576x24_0_1_2 (broadcastInDim S1x1x24 ![2] bcast_S24_S1x1x24_2 b)))
    shapeCasts_S16x576x24_S16x576x4x6
def bounded : FVec F S16x576x4x6 .f32 :=
  subf (mulf (Host.tanh (addf (projected z w b) (spread shiftRow))) (spread halfRow)) (spread (id offsetRow))
def quantized : FVec F S16x576x4x6 .f32 :=
  addf (bounded z w b) (subf (Host.roundeven (bounded z w b)) (bounded z w b))
def codes : FVec F S16x576x4x6 .f32 := Host.divf (quantized z w b) (spread widthRow)
def indices : IVec S16x576x4 32 :=
  fptosi 32 (Host.reduceAdd (mulf (addf (mulf (codes z w b) (spread widthRow)) (spread widthRow)) (spread basisRow))
    (constant S_ .f32 0x00000000#32) reducesTo_S16x576x4x6_S16x576x4_d3 h_S_)
def decoded : FVec F S16x576x768 .f32 :=
  addf (Host.dotGeneral dot_S16x576x24_S24x768_S16x576x768_2_0_01_1_n_n none
      (shapeCast S16x576x24 (codes z w b) shapeCasts_S16x576x4x6_S16x576x24) wo)
    (broadcastInDim S16x576x768 ![0, 1, 2] bcast_S1x1x768_S16x576x768_0_1_2 (broadcastInDim S1x1x768 ![2] bcast_S768_S1x1x768_2 bo))

end Rows

section Terms

variable {F : FTy → Type} [FloatOps F] (m : (ℓ : Loc nD τ sig) → Buf (Elt F) ℓ)

/-- The run's terms are these. -/
theorem res_idx (c : Dev nD) : res_main_v49 m c
    = indices (m ((c.tc : Thread nD τ).loc main_arg0)) (m ((c.tc : Thread nD τ).loc main_arg1)) (m ((c.tc : Thread nD τ).loc main_arg2)) := by
  rfl
theorem res_out (c : Dev nD) : res_main_v54 m c
    = decoded (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rfl

end Terms

/-! ## The rows, level by level -/

theorem rowMajor6 (d : Fin 6) : S6.rowMajor (ix1 d) = d :=
  Fin.ext ((by decide : ∀ d : Fin 6, (S6.rowMajor (ix1 d)).val = d.val) d)

theorem parity_apply (d : Fin 6) : parity (ix1 d) = if d.val < 3 then 0#32 else 1#32 := by
  revert d; decide +kernel
theorem halved_apply (d : Fin 6) : halved (ix1 d) = if d.val < 3 then 4#32 else 2#32 := by
  revert d; decide +kernel

/-- The half level of a level. -/
def halfAt (d : Fin 6) : EReal :=
  Ideal.div (((((lit0 d).toInt : ℝ) : EReal) - 1) * Ideal.ofBits .f32 0x3F8020C5#32) (Ideal.ofBits .f32 0x40000000#32)
/-- The offset of a level: a half where the level is even. -/
def offsetAt (d : Fin 6) : EReal := if d.val < 3 then Ideal.ofBits .f32 0x3F000000#32 else 0
/-- The half width of a level. -/
def widthAt (d : Fin 6) : EReal := if d.val < 3 then ((4 : ℝ) : EReal) else ((2 : ℝ) : EReal)

theorem halfRow_apply (d : Fin 6) : halfRow (F := Ideal) (ix1 d) = halfAt d := by
  pointwise [halfRow, halfAt, word, levels]
  rw [rowMajor6]; rfl
theorem offsetRow_apply (d : Fin 6) : offsetRow (F := Ideal) (ix1 d) = offsetAt d := by
  pointwise [offsetRow, offsetAt, word, along, parity_apply]
  by_cases h : d.val < 3
  · simp only [if_pos h]; rfl
  · simp only [if_neg h]; rfl
theorem shiftRow_apply (d : Fin 6) : shiftRow (F := Ideal) (ix1 d) = Ideal.atanh (Ideal.div (offsetAt d) (halfAt d)) := by
  pointwise [shiftRow, id, halfRow_apply, offsetRow_apply]
theorem widthRow_apply (d : Fin 6) : widthRow (F := Ideal) (ix1 d) = widthAt d := by
  pointwise [widthRow, halved_apply, widthAt]
  by_cases h : d.val < 3
  · simp only [if_pos h]; exact congrArg Real.toEReal (by rw [show (4#32 : BitVec 32).toInt = 4 from rfl]; norm_num : (((4#32 : BitVec 32).toInt : ℤ) : ℝ) = 4)
  · simp only [if_neg h]; exact congrArg Real.toEReal (by rw [show (2#32 : BitVec 32).toInt = 2 from rfl]; norm_num : (((2#32 : BitVec 32).toInt : ℤ) : ℝ) = 2)
theorem basisRow_apply (d : Fin 6) : basisRow (F := Ideal) (ix1 d) = (((lit1 d).toInt : ℝ) : EReal) := by
  pointwise [basisRow]
  rw [rowMajor6]; rfl

/-! ## The results, element by element -/

section Elements

variable (z : FVec Ideal S16x576x768 .f32) (w : FVec Ideal S768x24 .f32) (b : FVec Ideal S24 .f32)
variable (wo : FVec Ideal S24x768 .f32) (bo : FVec Ideal S768 .f32)

/-- The bounded latent of a projection. -/
def boundedAt (p : EReal) (d : Fin 6) : EReal :=
  Ideal.tanh (p + Ideal.atanh (Ideal.div (offsetAt d) (halfAt d))) * halfAt d - offsetAt d
/-- Its code. -/
def codeAt (p : EReal) (d : Fin 6) : EReal :=
  Ideal.div (boundedAt p d + (Ideal.liftRound Ideal.roundHalfEven (boundedAt p d) - boundedAt p d)) (widthAt d)

theorem codes_apply (i : Fin 16) (s : Fin 576) (g : Fin 4) (d : Fin 6) :
    codes z w b (ix4 i s g d)
      = codeAt ((∑ k : Fin 768, z (ix3 i s k) * w (ix2 k ⟨g.val * 6 + d.val, by have := g.isLt; have := d.isLt; omega⟩))
          + b (ix1 ⟨g.val * 6 + d.val, by have := g.isLt; have := d.isLt; omega⟩)) d := by
  pointwise [codes, quantized, bounded, projected, spread, id, halfRow_apply, offsetRow_apply, shiftRow_apply, widthRow_apply, codeAt, boundedAt]

theorem indices_apply (i : Fin 16) (s : Fin 576) (g : Fin 4) :
    indices z w b (ix3 i s g)
      = Ideal.fptosi 32 (∑ d : Fin 6, (codes z w b (ix4 i s g d) * widthAt d + widthAt d) * (((lit1 d).toInt : ℝ) : EReal)) := by
  pointwise [indices, spread, widthRow_apply, basisRow_apply]
  rfl

theorem decoded_apply (i : Fin 16) (s : Fin 576) (n : Fin 768) :
    decoded z w b wo bo (ix3 i s n)
      = (∑ l : Fin 24, codes z w b (ix4 i s ⟨l.val / 6, by have := l.isLt; omega⟩ ⟨l.val % 6, Nat.mod_lt _ (by decide)⟩) * wo (ix2 l n))
        + bo (ix1 n) := by
  pointwise [decoded]

end Elements

end Cert.ReferenceIdeal.Reading

end
-- ==== Proof.Equation.lean ====
/-
The equation: on the same arguments the kernel's two arrays and the reference's two results agree at every index.
-/
module

public import proofs.«01_k».proof.Proof.KernelIdeal.Results
public import proofs.«01_k».proof.Proof.ReferenceIdeal.Reading

@[expose] public section

set_option maxRecDepth 16384

noncomputable section

namespace Cert.Equation

open Idealize.ShloMosaic Idealize.ShloMosaic.TcCoe Idealize.SL.Sem
open Cert.ReferenceIdeal.Reading (offsetAt halfAt widthAt boundedAt codeAt)
open Cert.KernelIdeal.Value (latent)

/-! ## Words as reals -/

/-- A positive normal word is its significand times its power of two. -/
theorem word_normal (b : BitVec 32) (ex fr : ℕ) (hs : (b.extractLsb' 31 1 == 1#1) = false)
    (hex : (b.extractLsb' 23 8).toNat = ex) (hfr : (b.extractLsb' 0 23).toNat = fr) (h1 : ex ≠ 255) (h0 : ex ≠ 0) :
    Ideal.ofBits .f32 b = ((((2 ^ 23 + fr : ℕ) : ℝ) * (2 : ℝ) ^ ((ex : ℤ) - 127 - 23) : ℝ) : EReal) := by
  have e1 : ¬ (b.extractLsb' 23 8).toNat = 2 ^ 8 - 1 := by rw [hex]; exact h1
  have e0 : ¬ (b.extractLsb' 23 8).toNat = 0 := by rw [hex]; exact h0
  simp only [Ideal.ofBits, Ideal.ieee]
  rw [if_neg e1, if_neg e0, hex, hfr, show (b.extractLsb' (8 + 23) 1 == 1#1) = false from hs]
  norm_num

theorem word_half : Ideal.ofBits .f32 0x3F000000#32 = ((1 / 2 : ℝ) : EReal) := by
  rw [word_normal _ 126 0 (by decide) (by decide) (by decide) (by decide) (by decide)]
  exact congrArg Real.toEReal (by norm_num)
theorem word_quarter : Ideal.ofBits .f32 0x3E800000#32 = ((1 / 4 : ℝ) : EReal) := by
  rw [word_normal _ 125 0 (by decide) (by decide) (by decide) (by decide) (by decide)]
  exact congrArg Real.toEReal (by norm_num)
theorem word_two : Ideal.ofBits .f32 0x40000000#32 = ((2 : ℝ) : EReal) := by
  rw [word_normal _ 128 0 (by decide) (by decide) (by decide) (by decide) (by decide)]
  exact congrArg Real.toEReal (by norm_num)
theorem word_four : Ideal.ofBits .f32 0x40800000#32 = ((4 : ℝ) : EReal) := by
  rw [word_normal _ 129 0 (by decide) (by decide) (by decide) (by decide) (by decide)]
  exact congrArg Real.toEReal (by norm_num)
theorem word_five : Ideal.ofBits .f32 0x40A00000#32 = ((5 : ℝ) : EReal) := by
  rw [word_normal _ 129 2097152 (by decide) (by decide) (by decide) (by decide) (by decide)]
  exact congrArg Real.toEReal (by norm_num)
theorem word_eight : Ideal.ofBits .f32 0x41000000#32 = ((8 : ℝ) : EReal) := by
  rw [word_normal _ 130 0 (by decide) (by decide) (by decide) (by decide) (by decide)]
  exact congrArg Real.toEReal (by norm_num)
theorem word_64 : Ideal.ofBits .f32 0x42800000#32 = ((64 : ℝ) : EReal) := by
  rw [word_normal _ 133 0 (by decide) (by decide) (by decide) (by decide) (by decide)]
  exact congrArg Real.toEReal (by norm_num)
theorem word_512 : Ideal.ofBits .f32 0x44000000#32 = ((512 : ℝ) : EReal) := by
  rw [word_normal _ 136 0 (by decide) (by decide) (by decide) (by decide) (by decide)]
  exact congrArg Real.toEReal (by norm_num)
theorem word_2560 : Ideal.ofBits .f32 0x45200000#32 = ((2560 : ℝ) : EReal) := by
  rw [word_normal _ 138 2097152 (by decide) (by decide) (by decide) (by decide) (by decide)]
  exact congrArg Real.toEReal (by norm_num)
theorem word_12800 : Ideal.ofBits .f32 0x46480000#32 = ((12800 : ℝ) : EReal) := by
  rw [word_normal _ 140 4718592 (by decide) (by decide) (by decide) (by decide) (by decide)]
  exact congrArg Real.toEReal (by norm_num)
/-- The widening factor is a real number. -/
theorem word_factor : ∃ x : ℝ, Ideal.ofBits .f32 0x3F8020C5#32 = (x : EReal) :=
  ⟨_, word_normal _ 127 8389 (by decide) (by decide) (by decide) (by decide) (by decide)⟩

/-! ## The lanes' tables: lane `l` is level `l mod 6` of codebook `l / 6` -/

/-- The level of a lane, its codebook, and the lane of a codebook's level. -/
def levelOf (l : Fin 24) : Fin 6 := ⟨l.val % 6, Nat.mod_lt _ (by decide)⟩
def bookOf (l : Fin 24) : Fin 4 := ⟨l.val / 6, by have := l.isLt; omega⟩
def lane (g : Fin 4) (d : Fin 6) : Fin 24 := ⟨g.val * 6 + d.val, by have := g.isLt; have := d.isLt; omega⟩

/-- A lane is its codebook and its level. -/
theorem levelOf_lane (g : Fin 4) (d : Fin 6) : levelOf (lane g d) = d :=
  Fin.ext (by have := d.isLt; show (g.val * 6 + d.val) % 6 = d.val; omega)
theorem bookOf_lane (g : Fin 4) (d : Fin 6) : bookOf (lane g d) = g :=
  Fin.ext (by have := d.isLt; show (g.val * 6 + d.val) / 6 = g.val; omega)
theorem lane_of (l : Fin 24) : lane (bookOf l) (levelOf l) = l :=
  Fin.ext (by show l.val / 6 * 6 + l.val % 6 = l.val; omega)

/-- The kernel's rows of levels, offsets, half widths, inverse half widths and basis hold the same six words four times; the matrix of
    codebooks is one where the lane lies in the codebook; the reference's levels are three eights and three fives. -/
theorem lit0_lane : ∀ l : Fin 24, Cert.KernelIdeal.lit0 l = if l.val % 6 < 3 then 0x41000000#32 else 0x40A00000#32 := by decide
theorem lit1_lane : ∀ l : Fin 24, Cert.KernelIdeal.lit1 l = if l.val % 6 < 3 then 0x3F000000#32 else 0x00000000#32 := by decide
theorem lit3_lane : ∀ l : Fin 24, Cert.KernelIdeal.lit3 l = if l.val % 6 < 3 then 0x40800000#32 else 0x40000000#32 := by decide
theorem lit4_lane : ∀ l : Fin 24, Cert.KernelIdeal.lit4 l = if l.val % 6 < 3 then 0x3E800000#32 else 0x3F000000#32 := by decide
theorem lit5_lane : ∀ l : Fin 24, Cert.KernelIdeal.lit5 l = Cert.KernelIdeal.lit5 ⟨l.val % 6, by omega⟩ := by decide
theorem lit6_lane : ∀ (g : Fin 4) (l : Fin 24), Cert.KernelIdeal.lit6 ⟨4 * l.val + g.val, by have := l.isLt; have := g.isLt; omega⟩
    = if l.val / 6 = g.val then 0x3F800000#32 else 0x00000000#32 := by decide
theorem levels_lane : ∀ d : Fin 6, (Cert.ReferenceIdeal.lit0 d).toInt = if d.val < 3 then 8 else 5 := by decide

/-- The kernel's half level of a lane is the reference's of its level, -/
theorem half_lane (l : Fin 24) : Cert.KernelIdeal.Value.halfAt l = halfAt (levelOf l) := by
  unfold Cert.KernelIdeal.Value.halfAt halfAt
  rw [lit0_lane l, levels_lane (levelOf l)]
  by_cases h : l.val % 6 < 3
  · rw [if_pos h, if_pos (show (levelOf l).val < 3 from h), word_eight]; norm_num
  · rw [if_neg h, if_neg (show ¬ (levelOf l).val < 3 from h), word_five]; norm_num

/-- its offset, -/
theorem offset_lane (l : Fin 24) : Ideal.ofBits .f32 (Cert.KernelIdeal.lit1 l) = offsetAt (levelOf l) := by
  rw [lit1_lane l, offsetAt]
  by_cases h : l.val % 6 < 3
  · rw [if_pos h, if_pos (show (levelOf l).val < 3 from h)]
  · rw [if_neg h, if_neg (show ¬ (levelOf l).val < 3 from h), Ideal.ofBits_zero_f32]

/-- its half width, -/
theorem width_lane (l : Fin 24) : Ideal.ofBits .f32 (Cert.KernelIdeal.lit3 l) = widthAt (levelOf l) := by
  rw [lit3_lane l, widthAt]
  by_cases h : l.val % 6 < 3
  · rw [if_pos h, if_pos (show (levelOf l).val < 3 from h), word_four]
  · rw [if_neg h, if_neg (show ¬ (levelOf l).val < 3 from h), word_two]

/-- and its basis. -/
theorem basis_lane (l : Fin 24) :
    Ideal.ofBits .f32 (Cert.KernelIdeal.lit5 l) = (((Cert.ReferenceIdeal.lit1 (levelOf l)).toInt : ℝ) : EReal) := by
  have key : ∀ d : Fin 6, Ideal.ofBits .f32 (Cert.KernelIdeal.lit5 ⟨d.val, by omega⟩)
      = (((Cert.ReferenceIdeal.lit1 d).toInt : ℝ) : EReal) := by
    intro d
    fin_cases d
    · show Ideal.ofBits .f32 0x3F800000#32 = (((1#32 : BitVec 32).toInt : ℝ) : EReal)
      rw [show (1#32 : BitVec 32).toInt = 1 from rfl]; simp
    · show Ideal.ofBits .f32 0x41000000#32 = (((8#32 : BitVec 32).toInt : ℝ) : EReal)
      rw [show (8#32 : BitVec 32).toInt = 8 from rfl, word_eight]; norm_num
    · show Ideal.ofBits .f32 0x42800000#32 = (((64#32 : BitVec 32).toInt : ℝ) : EReal)
      rw [show (64#32 : BitVec 32).toInt = 64 from rfl, word_64]; norm_num
    · show Ideal.ofBits .f32 0x44000000#32 = (((512#32 : BitVec 32).toInt : ℝ) : EReal)
      rw [show (512#32 : BitVec 32).toInt = 512 from rfl, word_512]; norm_num
    · show Ideal.ofBits .f32 0x45200000#32 = (((2560#32 : BitVec 32).toInt : ℝ) : EReal)
      rw [show (2560#32 : BitVec 32).toInt = 2560 from rfl, word_2560]; norm_num
    · show Ideal.ofBits .f32 0x46480000#32 = (((12800#32 : BitVec 32).toInt : ℝ) : EReal)
      rw [show (12800#32 : BitVec 32).toInt = 12800 from rfl, word_12800]; norm_num
  rw [lit5_lane l]
  exact key (levelOf l)

/-! ## One lane's arithmetic -/

/-- The half level and the offset are real numbers. -/
theorem half_real (d : Fin 6) : ∃ x : ℝ, halfAt d = (x : EReal) := by
  obtain ⟨k, hk⟩ := word_factor
  refine ⟨((Cert.ReferenceIdeal.lit0 d).toInt - 1) * k * (1 / 2), ?_⟩
  unfold halfAt
  rw [hk, word_two, Ideal.div_coe (by norm_num)]
  push_cast
  rfl
theorem offset_real (d : Fin 6) : ∃ x : ℝ, offsetAt d = (x : EReal) := by
  unfold offsetAt
  by_cases h : d.val < 3
  · exact ⟨1 / 2, by rw [if_pos h, word_half]⟩
  · exact ⟨0, by rw [if_neg h]; rfl⟩
theorem width_real (d : Fin 6) : ∃ x : ℝ, x ≠ 0 ∧ widthAt d = (x : EReal) := by
  unfold widthAt
  by_cases h : d.val < 3
  · exact ⟨4, by norm_num, if_pos h⟩
  · exact ⟨2, by norm_num, if_neg h⟩

/-- A hyperbolic tangent is a real number whatever its argument, -/
theorem tanh_real (x : EReal) : ∃ y : ℝ, Ideal.tanh x = (y : EReal) := by
  induction x with
  | bot => exact ⟨-1, by rw [Ideal.tanh_bot]; norm_num⟩
  | top => exact ⟨1, by rw [Ideal.tanh_top]; norm_num⟩
  | coe r => exact ⟨Real.tanh r, Ideal.tanh_coe r⟩

/-- so the bounded latent is one, -/
theorem bounded_real (p : EReal) (d : Fin 6) : ∃ x : ℝ, boundedAt p d = (x : EReal) := by
  obtain ⟨t, ht⟩ := tanh_real (p + Ideal.atanh (Ideal.div (offsetAt d) (halfAt d)))
  obtain ⟨h, hh⟩ := half_real d
  obtain ⟨o, ho⟩ := offset_real d
  refine ⟨t * h - o, ?_⟩
  unfold boundedAt
  rw [ht, ho, hh]
  push_cast
  rfl

/-- The straight-through sum of a real number is its rounding, -/
theorem straight (x : ℝ) : (x : EReal) + (Ideal.liftRound Ideal.roundHalfEven (x : EReal) - (x : EReal))
    = Ideal.liftRound Ideal.roundHalfEven (x : EReal) := by
  rw [Ideal.liftRound_coe, ← EReal.coe_sub, ← EReal.coe_add]
  exact congrArg Real.toEReal (by ring)

/-- dividing a rounding by the half width and scaling it back is the rounding, -/
theorem rescaled (x : ℝ) (d : Fin 6) :
    Ideal.div (Ideal.liftRound Ideal.roundHalfEven (x : EReal)) (widthAt d) * widthAt d
      = Ideal.liftRound Ideal.roundHalfEven (x : EReal) := by
  obtain ⟨w, hw, he⟩ := width_real d
  rw [Ideal.liftRound_coe, he, Ideal.div_coe hw, ← EReal.coe_mul, ← EReal.coe_mul]
  exact congrArg Real.toEReal (by field_simp)

/-- and the table's inverse half width is the division by the half width. -/
theorem inverse_lane (x : EReal) (l : Fin 24) :
    x * Ideal.ofBits .f32 (Cert.KernelIdeal.lit4 l) = Ideal.div x (widthAt (levelOf l)) := by
  rw [lit4_lane l, widthAt]
  by_cases h : l.val % 6 < 3
  · rw [if_pos h, if_pos (show (levelOf l).val < 3 from h), word_quarter, Ideal.div_coe (by norm_num)]
  · rw [if_neg h, if_neg (show ¬ (levelOf l).val < 3 from h), word_half, Ideal.div_coe (by norm_num)]

/-- The rounded latent. -/
abbrev roundedAt (p : EReal) (d : Fin 6) : EReal := Ideal.liftRound Ideal.roundHalfEven (boundedAt p d)

/-- The code is the rounded latent over the half width. -/
theorem code_eq (p : EReal) (d : Fin 6) : codeAt p d = Ideal.div (roundedAt p d) (widthAt d) := by
  obtain ⟨x, hx⟩ := bounded_real p d
  unfold codeAt roundedAt
  rw [hx, straight]

/-- Scaling the code back is adding the half width to the rounded latent. -/
theorem scaled_eq (p : EReal) (d : Fin 6) : codeAt p d * widthAt d + widthAt d = roundedAt p d + widthAt d := by
  obtain ⟨x, hx⟩ := bounded_real p d
  rw [code_eq]
  unfold roundedAt
  rw [hx, rescaled]

/-- The table's factor is the division. -/
theorem code_lane (p : EReal) (l : Fin 24) :
    roundedAt p (levelOf l) * Ideal.ofBits .f32 (Cert.KernelIdeal.lit4 l) = codeAt p (levelOf l) := by
  rw [code_eq, inverse_lane]

/-- A sum over the lanes against one codebook's membership is the sum over that codebook's levels. -/
theorem sum_group (f : Fin 24 → EReal) (g : Fin 4) :
    (∑ l : Fin 24, f l * Ideal.ofBits .f32 (Cert.KernelIdeal.lit6 ⟨4 * l.val + g.val, by have := l.isLt; have := g.isLt; omega⟩))
      = ∑ d : Fin 6, f (lane g d) := by
  have e (l : Fin 24) : f l * Ideal.ofBits .f32 (Cert.KernelIdeal.lit6 ⟨4 * l.val + g.val, by have := l.isLt; have := g.isLt; omega⟩)
      = if bookOf l = g then f l else 0 := by
    rw [lit6_lane g l]
    by_cases h : l.val / 6 = g.val
    · rw [if_pos h, if_pos (Fin.ext h : bookOf l = g), Ideal.ofBits_one_f32, mul_one]
    · rw [if_neg h, if_neg (fun e => h (congrArg Fin.val e)), Ideal.ofBits_zero_f32, mul_zero]
  rw [Finset.sum_congr rfl fun l _ => e l, Fin.sum_univ_tiles 4 6 rfl]
  rw [Finset.sum_eq_single g]
  · refine Finset.sum_congr rfl fun d _ => ?_
    exact if_pos (bookOf_lane g d)
  · intro b _ hb
    refine Finset.sum_eq_zero fun d _ => ?_
    exact if_neg (fun e => hb ((bookOf_lane b d).symm.trans e))
  · intro h; exact absurd (Finset.mem_univ g) h

end Cert.Equation

end
-- ==== Proof.Agreement.lean ====
/-
The kernel's results are the reference's: the two results as functions of the five arguments, and the claims' conjuncts.
-/
module

public import proofs.«01_k».proof.Defs
public import proofs.«01_k».proof.Proof.Equation
public import Idealize.ShloMosaic.Lib.Quiescent

@[expose] public section

set_option maxRecDepth 16384

noncomputable section

namespace Cert.Equation

open Idealize.ShloMosaic Idealize.ShloMosaic.TcCoe Idealize.SL.Sem
open Cert.ReferenceIdeal.Reading (offsetAt halfAt widthAt boundedAt codeAt)
open Cert.KernelIdeal.Value (latent outRows idxRows rowLatent table)
open Cert.KernelIdeal (S9216x768 S9216x4 S1x24 S1x768 S16x576x768 S16x576x4 S768x24 S24 S24x768 S768 S24x4)

variable (z : FVec Ideal S16x576x768 .f32) (w : FVec Ideal S768x24 .f32) (b : FVec Ideal S24 .f32)
variable (wo : FVec Ideal S24x768 .f32) (bo : FVec Ideal S768 .f32)

/-- The tokens as the rows of one matrix, the two biases as rows, and the lanes' codebooks as a matrix of zeros and ones. -/
abbrev rows : FVec Ideal S9216x768 .f32 := shapeCast S9216x768 z Cert.KernelIdeal.Gen.shapeCasts_S16x576x768_S9216x768
abbrev bias : FVec Ideal S1x24 .f32 := shapeCast S1x24 b Cert.KernelIdeal.Gen.shapeCasts_S24_S1x24
abbrev outBias : FVec Ideal S1x768 .f32 := shapeCast S1x768 bo Cert.KernelIdeal.Gen.shapeCasts_S768_S1x768
abbrev groups : FVec Ideal S24x4 .f32 := fun i => FloatOps.ofBits .f32 (Cert.KernelIdeal.lit6 (S24x4.rowMajor i))

/-- The row of token `s` of batch `i`. -/
def rowOf (i : Fin 16) (s : Fin 576) : Fin 9216 := ⟨i.val * 576 + s.val, by have := i.isLt; have := s.isLt; omega⟩

/-- The projection of a token on a lane. -/
def proj (i : Fin 16) (s : Fin 576) (l : Fin 24) : EReal := (∑ k : Fin 768, z (ix3 i s k) * w (ix2 k l)) + b (ix1 l)

/-- A row of the kernel's matrix is the token it was cut from. -/
theorem rows_at (i : Fin 16) (s : Fin 576) (k : Fin 768) : rows z (ix2 (rowOf i s) k) = z (ix3 i s k) := by
  refine (Cert.KernelIdeal.Value.rows_apply z (rowOf i s) k).trans (congrArg z ?_)
  have h1 : (rowOf i s).val / 576 = i.val := by have := s.isLt; show (i.val * 576 + s.val) / 576 = i.val; omega
  have h2 : (rowOf i s).val % 576 = s.val := by have := s.isLt; show (i.val * 576 + s.val) % 576 = s.val; omega
  rw [show (⟨(rowOf i s).val / 576, by have := (rowOf i s).isLt; omega⟩ : Fin 16) = i from Fin.ext h1,
    show (⟨(rowOf i s).val % 576, Nat.mod_lt _ (by decide)⟩ : Fin 576) = s from Fin.ext h2]

/-- The kernel's latent of a token's row and a lane is the reference's rounded latent. -/
theorem rowLatent_eq (i : Fin 16) (s : Fin 576) (l : Fin 24) :
    rowLatent (rows z) w (bias b) table (rowOf i s) l = roundedAt (proj z w b i s l) (levelOf l) := by
  unfold rowLatent latent roundedAt boundedAt proj
  rw [Cert.KernelIdeal.Value.table0, Cert.KernelIdeal.Value.table1, Cert.KernelIdeal.Value.table2, half_lane, offset_lane,
    show bias b (ix2 0 l) = b (ix1 l) from Cert.KernelIdeal.Value.bias_apply b l]
  simp only [rows_at]

/-- The reference's code at a lane. -/
theorem codes_lane (i : Fin 16) (s : Fin 576) (g : Fin 4) (d : Fin 6) :
    Cert.ReferenceIdeal.Reading.codes z w b (ix4 i s g d) = codeAt (proj z w b i s (lane g d)) d :=
  Cert.ReferenceIdeal.Reading.codes_apply z w b i s g d

/-- The decoded arrays agree, -/
theorem decoded_eq :
    shapeCast S16x576x768 (outRows (rows z) w (bias b) wo (outBias bo) table) Cert.KernelIdeal.Gen.shapeCasts_S9216x768_S16x576x768
      = Cert.ReferenceIdeal.Reading.decoded z w b wo bo := by
  refine funext fun (j : S16x576x768.Idx) => ?_
  idx_vars j
  refine (Cert.KernelIdeal.Value.outShape_apply _ j0 j1 j2).trans
    (Eq.trans ?_ (Cert.ReferenceIdeal.Reading.decoded_apply z w b wo bo j0 j1 j2).symm)
  refine congrArg₂ (· + ·) (Finset.sum_congr rfl fun l _ => congrArg₂ (· * ·) ?_ rfl) (Cert.KernelIdeal.Value.outBias_apply bo j2)
  refine (congrArg₂ (· * ·) (rowLatent_eq z w b j0 j1 l) (Cert.KernelIdeal.Value.table4 l)).trans ((code_lane _ l).trans ?_)
  refine Eq.trans ?_ (codes_lane z w b j0 j1 (bookOf l) (levelOf l)).symm
  rw [lane_of]

/-- and so do the indices. -/
theorem indices_eq :
    shapeCast S16x576x4 (idxRows (rows z) w (bias b) table groups) Cert.KernelIdeal.Gen.shapeCasts_S9216x4_S16x576x4
      = Cert.ReferenceIdeal.Reading.indices z w b := by
  refine funext fun (j : S16x576x4.Idx) => ?_
  idx_vars j
  refine (Cert.KernelIdeal.Value.idxShape_apply _ j0 j1 j2).trans
    (Eq.trans ?_ (Cert.ReferenceIdeal.Reading.indices_apply z w b j0 j1 j2).symm)
  refine congrArg (Ideal.fptosi 32) ?_
  refine Eq.trans (Finset.sum_congr rfl fun l _ => ?_) ((sum_group (fun l =>
    (codeAt (proj z w b j0 j1 l) (levelOf l) * widthAt (levelOf l) + widthAt (levelOf l))
      * (((Cert.ReferenceIdeal.lit1 (levelOf l)).toInt : ℝ) : EReal)) j2).trans (Finset.sum_congr rfl fun d _ => ?_))
  · refine congrArg₂ (· * ·) (congrArg₂ (· * ·) ?_ ((Cert.KernelIdeal.Value.table5 l).trans (basis_lane l))) ?_
    · rw [scaled_eq]
      exact congrArg₂ (· + ·) (rowLatent_eq z w b j0 j1 l) ((Cert.KernelIdeal.Value.table3 l).trans (width_lane l))
    · exact congrArg (fun x => Ideal.ofBits .f32 (Cert.KernelIdeal.lit6 x)) (Cert.KernelIdeal.Value.rowMajor24x4 l j2)
  · rw [levelOf_lane, codes_lane]

end Cert.Equation

/-! ## The claims -/

namespace Cert.Claims

open Idealize.ShloMosaic Idealize.ShloMosaic.TcCoe Idealize.SL.Sem
open Cert.KernelIdeal.Value Cert.KernelIdeal.Gen

variable (m : (ℓ : Loc Cert.KernelIdeal.nD Cert.KernelIdeal.τ Cert.KernelIdeal.sig) → Buf (Elt Ideal) ℓ) (c : Dev Cert.KernelIdeal.nD)

/-- What the kernel leaves in its first result is the reference's decoded array of its arguments, -/
theorem kernel_out :
    shapeCast Cert.KernelIdeal.S16x576x768 (outV m c) shapeCasts_S9216x768_S16x576x768
      = Cert.ReferenceIdeal.Reading.decoded (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) := by
  refine Eq.trans ?_ (Cert.Equation.decoded_eq _ _ _ _ _)
  unfold outV zV wV bV woV boV tbV
  rw [V_rows, V_bias, V_outBias, V_table, V_main_arg1, V_main_arg3]

/-- and in its second the reference's indices. -/
theorem kernel_idx :
    shapeCast Cert.KernelIdeal.S16x576x4 (idxV m c) shapeCasts_S9216x4_S16x576x4
      = Cert.ReferenceIdeal.Reading.indices (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  refine Eq.trans ?_ (Cert.Equation.indices_eq _ _ _)
  unfold idxV zV wV bV tbV slV
  rw [V_rows, V_bias, V_groups, V_table, V_main_arg1]

/-- The reference's frame: its run read at the arguments; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The value claim: both results of the kernel are the reference's, over the extended reals. -/
theorem algebraic : Cert.algebraic_KernelIdeal_ReferenceIdeal := by
  intro m ρ m' ρ' _ hag
  refine ⟨fun c => _, fun c => _, Cert.KernelIdeal.Value.run m ρ,
    (θ_run Cert.ReferenceIdeal.defs _ _).mono (fun _ h c => ⟨(h c).1.trans ?_, (h c).2.1.trans ?_, (h c).2.2⟩)
      (Cert.ReferenceIdeal.Value.run (F := Ideal) m' ρ')⟩
  · rw [Cert.ReferenceIdeal.Reading.res_out, (hag c).1, (hag c).2.1, (hag c).2.2.1, (hag c).2.2.2.1, (hag c).2.2.2.2]
    exact (kernel_out m c).symm
  · rw [Cert.ReferenceIdeal.Reading.res_idx, (hag c).1, (hag c).2.1, (hag c).2.2.1]
    exact (kernel_idx m c).symm

end Cert.Claims

end
-- ==== Proof.Kernel.Frame.lean ====
/-
The kernel at words: its text is the text read over the extended reals, so the launch's run, which is proved for any
interpretation of the floats, is its run too.
-/
module

public import proofs.«01_k».proof.Defs
public import proofs.«01_k».proof.Proof.Gen.Kernel
public import proofs.«01_k».proof.Proof.KernelIdeal.Run

@[expose] public section

set_option maxRecDepth 16384

noncomputable section

namespace Cert.Kernel.Frame

open Idealize.ShloMosaic Idealize.ShloMosaic.TcCoe Idealize.SL.Sem

/-- The two texts have one body table at words, -/
theorem body_table : @Cert.Kernel.defs₀ Bits _ Cert.Kernel.Gen.facts = @Cert.KernelIdeal.defs₀ Bits _ Cert.KernelIdeal.Gen.facts := by
  unfold Cert.Kernel.defs₀ Cert.KernelIdeal.defs₀
  refine congrArg (fun D => Defs.onTc (nD := Cert.KernelIdeal.nD) (τ := Cert.KernelIdeal.τ) (sig := Cert.KernelIdeal.sig)
    (Val := Elt Bits) (Λ := Cert.KernelIdeal.Λ₀) D) ?_
  funext l a
  match l, a with
  | 0, (t, s) => rfl

/-- one table with the pipeline's labels, -/
theorem table : @Cert.Kernel.defs Bits _ Cert.Kernel.Gen.facts = @Cert.KernelIdeal.defs Bits _ Cert.KernelIdeal.Gen.facts :=
  congrArg (Pipeline.defs (Cert.KernelIdeal.pcfgs (F := Bits))) body_table

/-- and one host program. -/
theorem program : @Cert.Kernel.main Bits _ Cert.Kernel.Gen.facts = @Cert.KernelIdeal.main Bits _ Cert.KernelIdeal.Gen.facts := rfl

open Cert.KernelIdeal in
/-- What the frame says of a body table and a host program. -/
def Framed (D : Defs nD τ sig (Elt Bits) (Pipeline.Sig Λ₀ (Fin 1) fun p => (pcfgs (F := Bits) p).Adm))
    (p : Dev nD → Prog (TpuEff nD τ sig (Elt Bits) (Pipeline.Sig Λ₀ (Fin 1) fun p => (pcfgs (F := Bits) p).Adm) .tc) Unit) : Prop :=
  ∀ (m : (ℓ : Loc nD τ sig) → Buf (Elt Bits) ℓ) (ρ : Dev nD → PrngReg),
    θ_run D (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The kernel's text read over the extended reals is framed at words, -/
theorem framed_ideal : Framed (@Cert.KernelIdeal.defs Bits _ Cert.KernelIdeal.Gen.facts) (@Cert.KernelIdeal.main Bits _ Cert.KernelIdeal.Gen.facts) :=
  fun m ρ => Cert.KernelIdeal.Value.frame (F := Bits) m ρ

/-- so the kernel's own is. -/
theorem framed : Framed (@Cert.Kernel.defs Bits _ Cert.Kernel.Gen.facts) (@Cert.Kernel.main Bits _ Cert.Kernel.Gen.facts) :=
  (congrArg₂ Framed table program).mpr framed_ideal

/-- The kernel's frame: it runs, its argument arrays end unchanged, every semaphore counter ends at zero. -/
theorem frame : Cert.quiescent_Kernel (hKernel := Cert.Kernel.Gen.facts) := fun m ρ _ => framed m ρ

end Cert.Kernel.Frame

end
-- ==== Proof.VersionIdeal.Body.lean ====
/-
The body of the version as it stands, run once: what it leaves in its two results' blocks and in the scratch of codes, from what its
blocks hold, in the two cases of its one condition (the first of the two points of a row block, and the second).
-/
module

public import proofs.«01_k».proof.Proof.Gen.VersionIdeal.Frame
public import proofs.«01_k».proof.Proof.Gen.VersionIdeal.Skeleton
public import proofs.«01_k».proof.Proof.KernelIdeal.Body
public import Idealize.ShloMosaic.Lib.Tactic
public import Idealize.ShloMosaic.Lib.Pipeline.Value
public import Idealize.ShloMosaic.Lib.WholeRead
public import Idealize.ShloMosaic.Lib.WordCmp

@[expose] public section

set_option maxRecDepth 16384

noncomputable section

namespace Cert.VersionIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.VersionIdeal.Gen
open Cert.KernelIdeal.Value (zeros2 load_all store_all)

variable {F : FTy → Type} [FloatOps F]

local notation "𝕄" => MT nD τ sig Unit (Elt F) ℕ (UR sig nD τ) ℕ

/-- The body's condition: the second grid coordinate is zero. -/
abbrev first (i : grid0.Coords) : Prop := k0_cond1 i = 1#1

/-- It holds at the even points. -/
theorem first_iff (t : Fin cfg0.N) : first (grid0.coords t) ↔ t.val % 2 = 0 := by
  have ht : t.val < 4 := Nat.lt_of_lt_of_eq t.isLt N_0
  have e0 : (grid0.coords t 0).val = t.val / 2 % 2 := Pipeline.Grid.coords_val t 0 (by decide) rfl
  have e1 : (grid0.coords t 1).val = t.val / 1 % 2 := Pipeline.Grid.coords_val t 1 (by decide) rfl
  simp only [first, k0_cond1, e0, e1]
  word_cmp

/-- A row of the table of constants, as the body loads it. -/
abbrev row0 (x : Vec F S6x24 .f32) : Vec F S1x24 .f32 := View.ld x (Rect.unit (s := S6x24) ![0, 0] S1x24.size inb_S6x24_S1x24_0_0)
abbrev row1 (x : Vec F S6x24 .f32) : Vec F S1x24 .f32 := View.ld x (Rect.unit (s := S6x24) ![1, 0] S1x24.size inb_S6x24_S1x24_1_0)
abbrev row2 (x : Vec F S6x24 .f32) : Vec F S1x24 .f32 := View.ld x (Rect.unit (s := S6x24) ![2, 0] S1x24.size inb_S6x24_S1x24_2_0)
abbrev row3 (x : Vec F S6x24 .f32) : Vec F S1x24 .f32 := View.ld x (Rect.unit (s := S6x24) ![3, 0] S1x24.size inb_S6x24_S1x24_3_0)
abbrev row4 (x : Vec F S6x24 .f32) : Vec F S1x24 .f32 := View.ld x (Rect.unit (s := S6x24) ![4, 0] S1x24.size inb_S6x24_S1x24_4_0)
abbrev row5 (x : Vec F S6x24 .f32) : Vec F S1x24 .f32 := View.ld x (Rect.unit (s := S6x24) ![5, 0] S1x24.size inb_S6x24_S1x24_5_0)

/-- The codes the body computes from a block of rows, the first product's operands and the table. -/
def codesOf (x0 : Vec F S4608x768 .f32) (x1 : Vec F S768x24 .f32) (x2 : Vec F S1x24 .f32) (x5 : Vec F S6x24 .f32) : Vec F S4608x24 .f32 :=
  k0_pay3 x0 x1 x2 (row0 x5) (row1 x5) (row2 x5) (row4 x5)

/-- The indices it computes from the same and the table of groups. -/
def idxOf (x0 : Vec F S4608x768 .f32) (x1 : Vec F S768x24 .f32) (x2 : Vec F S1x24 .f32) (x5 : Vec F S6x24 .f32) (x6 : Vec F S24x4 .f32) : Vec F S4608x4 .i32 :=
  k0_pay4 x0 x1 x2 (row0 x5) (row1 x5) (row2 x5) (row3 x5) (row5 x5) x6

set_option maxHeartbeats 2000000 in
/-- At a first point: from the blocks of the seven operands and any contents of the results' blocks and the scratch, the body
    leaves the product of the codes in the first result's block, the indices in the second's, the codes in the scratch. -/
theorem run_first (c : Dev nD) (i : grid0.Coords) (arg2 : Memref sig .tc .vmem S4608x768 .f32) (harg2 : arg2.IsWhole) (arg3 : Memref sig .tc .vmem S768x24 .f32) (harg3 : arg3.IsWhole) (arg4 : Memref sig .tc .vmem S1x24 .f32) (harg4 : arg4.IsWhole) (arg5 : Memref sig .tc .vmem S24x384 .f32) (harg5 : arg5.IsWhole) (arg6 : Memref sig .tc .vmem S1x384 .f32) (harg6 : arg6.IsWhole) (arg7 : Memref sig .tc .vmem S6x24 .f32) (harg7 : arg7.IsWhole) (arg8 : Memref sig .tc .vmem S24x4 .f32) (harg8 : arg8.IsWhole) (arg9 : Memref sig .tc .vmem S4608x384 .f32) (harg9 : arg9.IsWhole) (arg10 : Memref sig .tc .vmem S4608x4 .i32) (harg10 : arg10.IsWhole) (arg11 : Memref sig .tc .vmem S4608x24 .f32) (harg11 : arg11.IsWhole) (hc0 : first i)
    (x0 : Vec F S4608x768 .f32) (x1 : Vec F S768x24 .f32) (x2 : Vec F S1x24 .f32) (x3 : Vec F S24x384 .f32) (x4 : Vec F S1x384 .f32) (x5 : Vec F S6x24 .f32) (x6 : Vec F S24x4 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 (codesOf x0 x1 x2 x5) x3 x4) ∗ owns (c : Thread nD τ) arg10 fullShare (idxOf x0 x1 x2 x5 x6) ∗ owns (c : Thread nD τ) arg11 fullShare (codesOf x0 x1 x2 x5)) -∗ K ⟨⟩))
          ⊢ wp frame (wpE (defs₀ (F := F)) Variants.none c none) E (cc0__fsq_block i arg2 harg2 arg3 harg3 arg4 harg4 arg5 harg5 arg6 harg6 arg7 harg7 arg8 harg8 arg9 harg9 arg10 harg10 arg11 harg11) K := by
  simp only [cc0__fsq_block_eq_skeleton]; unfold cc0__fsq_block_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    rw [store_all _ zeros2]
    unfold run_first.sl.v3 run_first.sl.HS0_1
    rw [View.readCov_unit_zero _ zeros2, load_all harg5 x3 zeros2, load_all harg6 x4 zeros2]
    rw [load_all harg2 x0 zeros2, load_all harg3 x1 zeros2, load_all harg4 x2 zeros2]
    simp only [View.readAt_eq_ld, harg7.read_unread]
    rfl
  isplitl [H8]
  · iexists _; isplitr; swap; · iexact H8
    ipureintro
    rw [store_all _ zeros2]
    unfold run_first.sl.r
    rw [load_all harg8 x6 zeros2]
    rw [load_all harg2 x0 zeros2, load_all harg3 x1 zeros2, load_all harg4 x2 zeros2]
    simp only [View.readAt_eq_ld, harg7.read_unread]
    rfl
  iexists _; isplitr; swap; · iexact HS0
  ipureintro
  unfold run_first.sl.HS0_1
  rw [store_all _ zeros2]
  rw [load_all harg2 x0 zeros2, load_all harg3 x1 zeros2, load_all harg4 x2 zeros2]
  simp only [View.readAt_eq_ld, harg7.read_unread]
  rfl

set_option maxHeartbeats 2000000 in
/-- At a second point: the scratch holds the codes `s` of the row block; the body leaves their product in the first result's
    block and changes neither the scratch nor the second result's block. -/
theorem run_second (c : Dev nD) (i : grid0.Coords) (arg2 : Memref sig .tc .vmem S4608x768 .f32) (harg2 : arg2.IsWhole) (arg3 : Memref sig .tc .vmem S768x24 .f32) (harg3 : arg3.IsWhole) (arg4 : Memref sig .tc .vmem S1x24 .f32) (harg4 : arg4.IsWhole) (arg5 : Memref sig .tc .vmem S24x384 .f32) (harg5 : arg5.IsWhole) (arg6 : Memref sig .tc .vmem S1x384 .f32) (harg6 : arg6.IsWhole) (arg7 : Memref sig .tc .vmem S6x24 .f32) (harg7 : arg7.IsWhole) (arg8 : Memref sig .tc .vmem S24x4 .f32) (harg8 : arg8.IsWhole) (arg9 : Memref sig .tc .vmem S4608x384 .f32) (harg9 : arg9.IsWhole) (arg10 : Memref sig .tc .vmem S4608x4 .i32) (harg10 : arg10.IsWhole) (arg11 : Memref sig .tc .vmem S4608x24 .f32) (harg11 : arg11.IsWhole) (hc0 : ¬first i)
    (x3 : Vec F S24x384 .f32) (x4 : Vec F S1x384 .f32) (s : Vec F S4608x24 .f32)
    (E : Set ℕ) (K : PUnit → sProp 𝕄) :
        iprop(owns (c : Thread nD τ) arg5 fullShare x3 ∗ owns (c : Thread nD τ) arg6 fullShare x4 ∗ (∃ d, owns (c : Thread nD τ) arg9 fullShare d) ∗ owns (c : Thread nD τ) arg11 fullShare s
            ∗ (iprop(owns (c : Thread nD τ) arg5 fullShare x3 ∗ owns (c : Thread nD τ) arg6 fullShare x4 ∗ owns (c : Thread nD τ) arg9 fullShare (k0_pay1 s x3 x4) ∗ owns (c : Thread nD τ) arg11 fullShare s) -∗ K ⟨⟩))
          ⊢ wp frame (wpE (defs₀ (F := F)) Variants.none c none) E (cc0__fsq_block i arg2 harg2 arg3 harg3 arg4 harg4 arg5 harg5 arg6 harg6 arg7 harg7 arg8 harg8 arg9 harg9 arg10 harg10 arg11 harg11) K := by
  simp only [cc0__fsq_block_eq_skeleton]; unfold cc0__fsq_block_skel
  unfold owns
  iintro ⟨⟨%f3, %hf3, H3⟩, ⟨%f4, %hf4, H4⟩, ⟨%d7, %f7, -, H7⟩, ⟨%fs0, %hs0, HS0⟩, Hk⟩
  obtain rfl := harg5.eq_unread hf3; obtain rfl := harg6.eq_unread hf4; obtain rfl := harg11.eq_unread hs0
  sl_exec (disch := first | sl_exact hc0)
  sl_step
  iapply Hk
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    rw [store_all _ zeros2, load_all harg5 x3 zeros2, load_all harg6 x4 zeros2, load_all harg11 s zeros2]
  iexists _; isplitr; · ipureintro; exact harg11.read_unread _
  iexact HS0

end Cert.VersionIdeal.Value

end
-- ==== Proof.VersionIdeal.Block.lean ====
/-
What one block's payloads are in the version as it stands, element by element, over the extended reals: the rounded latent of a row and a lane, its code,
the decoded element, and the index of a row's group.
-/
module

public import proofs.«01_k».proof.Proof.VersionIdeal.Body
public import proofs.«01_k».proof.Proof.KernelIdeal.Block
public import Idealize.ShloMosaic.Lib.Pointwise

@[expose] public section

set_option maxRecDepth 16384

noncomputable section

namespace Cert.VersionIdeal.Value

open Idealize.ShloMosaic Idealize.ShloMosaic.TcCoe
open Cert.VersionIdeal Cert.VersionIdeal.Gen
open Cert.KernelIdeal.Value (latent)

/-- The latents of a block, row `r` and lane `l`. -/
theorem latent_apply (x0 : FVec Ideal S4608x768 .f32) (x1 : FVec Ideal S768x24 .f32) (x2 s h o : FVec Ideal S1x24 .f32)
    (r : Fin 4608) (l : Fin 24) :
    k0_pay2 (F := Ideal) x0 x1 x2 s h o (ix2 r l)
      = latent ((∑ k : Fin 768, x0 (ix2 r k) * x1 (ix2 k l)) + x2 (ix2 0 l)) (s (ix2 0 l)) (h (ix2 0 l)) (o (ix2 0 l)) := by
  pointwise [k0_pay2, latent]

/-- The codes of a block: the latent times the table's fifth row. -/
theorem codesOf_apply (x0 : FVec Ideal S4608x768 .f32) (x1 : FVec Ideal S768x24 .f32) (x2 : FVec Ideal S1x24 .f32)
    (x5 : FVec Ideal S6x24 .f32) (r : Fin 4608) (l : Fin 24) :
    codesOf (F := Ideal) x0 x1 x2 x5 (ix2 r l)
      = latent ((∑ k : Fin 768, x0 (ix2 r k) * x1 (ix2 k l)) + x2 (ix2 0 l)) (x5 (ix2 0 l)) (x5 (ix2 1 l)) (x5 (ix2 2 l))
        * x5 (ix2 4 l) := by
  unfold codesOf
  pointwise [k0_pay3, latent_apply, row0, row1, row2, row4]

/-- The decoded block. -/
theorem pay1_apply (c : FVec Ideal S4608x24 .f32) (w : FVec Ideal S24x384 .f32) (b : FVec Ideal S1x384 .f32)
    (r : Fin 4608) (n : Fin 384) :
    k0_pay1 (F := Ideal) c w b (ix2 r n) = (∑ l : Fin 24, c (ix2 r l) * w (ix2 l n)) + b (ix2 0 n) := by
  pointwise [k0_pay1]

/-- The indices of a block: for group `g` the sum over the lanes of the scaled latents times the lane's membership. -/
theorem idxOf_apply (x0 : FVec Ideal S4608x768 .f32) (x1 : FVec Ideal S768x24 .f32) (x2 : FVec Ideal S1x24 .f32)
    (x5 : FVec Ideal S6x24 .f32) (x6 : FVec Ideal S24x4 .f32) (r : Fin 4608) (g : Fin 4) :
    idxOf (F := Ideal) x0 x1 x2 x5 x6 (ix2 r g)
      = Ideal.fptosi 32 (∑ l : Fin 24,
          (latent ((∑ k : Fin 768, x0 (ix2 r k) * x1 (ix2 k l)) + x2 (ix2 0 l)) (x5 (ix2 0 l)) (x5 (ix2 1 l)) (x5 (ix2 2 l))
            + x5 (ix2 3 l)) * x5 (ix2 5 l) * x6 (ix2 l g)) := by
  unfold idxOf
  pointwise [k0_pay4, latent_apply, row0, row1, row2, row3, row5]
  rfl

end Cert.VersionIdeal.Value

end
-- ==== Proof.VersionIdeal.Run.lean ====
/-
The version's run: what each of its blocks holds point by point, the scratch that carries a row block's codes from its first
point to its second, the body's obligation, and the launch.
-/
module

public import proofs.«01_k».proof.Proof.VersionIdeal.Body
public import proofs.«01_k».proof.Proof.Gen.VersionIdeal.Launch
public import proofs.«01_k».proof.Proof.Gen.VersionIdeal.Points
public import Idealize.ShloMosaic.Lib.Pipeline.FrameBody
public import Idealize.ShloMosaic.Lib.Pipeline.FrameSuffix
public import Idealize.ShloMosaic.Lib.Claim

@[expose] public section

set_option maxRecDepth 16384

noncomputable section

namespace Cert.VersionIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.VersionIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row block that point `t` is of. -/
def base (t : Fin cfg0.N) : Fin cfg0.N := ⟨2 * (t.val / 2), lt_of_le_of_lt (by omega) t.isLt⟩

theorem base_of_even (t : Fin cfg0.N) (h : t.val % 2 = 0) : base t = t := Fin.ext (by simp only [base]; omega)

theorem base_pred (t : Fin cfg0.N) (h : t.val % 2 = 1) : base ⟨t.val - 1, lt_of_le_of_lt (Nat.sub_le _ _) t.isLt⟩ = base t :=
  Fin.ext (by simp only [base]; omega)

/-- The codes of point `t`'s row block. -/
def codesAt (c : Dev nD) (t : Fin cfg0.N) : Vec F S4608x24 .f32 :=
  codesOf (iblk m c 0 (base t)) (iblk m c 1 (base t)) (iblk m c 2 (base t)) (iblk m c 5 (base t))

/-- The indices of point `t`'s row block. -/
def idxAt (c : Dev nD) (t : Fin cfg0.N) : Vec F S4608x4 .i32 :=
  idxOf (iblk m c 0 (base t)) (iblk m c 1 (base t)) (iblk m c 2 (base t)) (iblk m c 5 (base t)) (iblk m c 6 (base t))

/-- The first result's block at point `t`. -/
def outAt (c : Dev nD) (t : Fin cfg0.N) : Vec F S4608x384 .f32 := k0_pay1 (codesAt m c t) (iblk m c 3 t) (iblk m c 4 t)

/-- The scratch of codes. -/
abbrev scM : Memref sig .tc .vmem S4608x24 .f32 := Memref.whole cc0_scratch0

/-- What is held between the points: the generator's register, and the scratch — before a second point at the codes its
    first point left, before a first point (and at the end) at anything. -/
def between (c : Dev nD) (t : Fin (cfg0.N + 1)) : sProp 𝕄 :=
  if h : t.val % 2 = 1 then
    iprop(owns (c : Thread nD τ) scM fullShare (codesAt m c ⟨t.val - 1, by have := t.isLt; omega⟩) ∗ (∃ r, prngReg c r))
  else iprop((∃ d, owns (c : Thread nD τ) scM fullShare d) ∗ (∃ r, prngReg c r))

theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
    | ⟨8, _⟩ => idxAt m c t
  Φ t := between m c t
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]
theorem after_8 (c : Dev nD) (t : Fin cfg0.N) : (dats m 0 c).after 8 t = idxAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The second result's window is idle exactly at the second points. -/
theorem idle8 (t : Fin cfg0.N) : cfg0.idle 8 (grid0.coords t) = decide (t.val % 2 = 1) := by
  show (!(k0_cond1 (grid0.coords t) == 1#1)) = _
  by_cases h : t.val % 2 = 0
  · rw [(first_iff t).mpr h]; simp [h]
  · have h1 : ¬ k0_cond1 (grid0.coords t) = 1#1 := fun h' => h ((first_iff t).mp h')
    have h2 : t.val % 2 = 1 := by omega
    simp [h1, h2]

/-- At a second point the second result's block still holds what its first point left. -/
theorem before_8 (c : Dev nD) (t : Fin cfg0.N) (h : t.val % 2 = 1) (d) : (dats m 0 c).before 8 t d = idxAt m c t := by
  have hp : (t.val - 1) % 2 = 0 := by omega
  rw [(dats m 0 c).before_of_pos 8 t (by omega) ((cfg0.win 8).fetch_out rfl t), if_neg]
  · unfold Dat.left
    have hi := idle8 ⟨t.val - 1, Nat.lt_of_le_of_lt (Nat.sub_le _ _) t.isLt⟩
    simp only [hp, Nat.zero_ne_one, decide_false] at hi
    rw [show cfg0.idle 8 (cfg0.grid.coords ⟨t.val - 1, Nat.lt_of_le_of_lt (Nat.sub_le _ _) t.isLt⟩) = false from hi]
    show (dats m 0 c).after 8 _ = _
    rw [after_8]; unfold idxAt; rw [base_pred t h]
  · intro hf
    have := (flush0_8 _).mp hf
    simp only at this; omega

/-- After every point the second result's block holds the row block's indices: a first point stores them, a second keeps
    them. -/
theorem leaves_8 (c : Dev nD) (t : Fin cfg0.N) :
    (dats m 0 c).leavesExact 8 t = owns (c : Thread nD τ) (st0_8 t) fullShare (idxAt m c t) := by
  unfold Dat.leavesExact
  rw [← after_8]
  by_cases h : t.val % 2 = 1
  · rw [show cfg0.idle 8 (cfg0.grid.coords t) = true from (idle8 t).trans (by simp [h]), (flush0_8 t).mpr h]
  · rw [show cfg0.idle 8 (cfg0.grid.coords t) = false from (idle8 t).trans (by simp [h])]

theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (st0_7 t) fullShare (outAt m c t) := by
  unfold Dat.leavesExact; rw [show cfg0.idle 7 (cfg0.grid.coords t) = false from rfl, after_7]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem between_even (c : Dev nD) (t : Fin (cfg0.N + 1)) (h : t.val % 2 = 0) :
    between m c t = iprop((∃ d, owns (c : Thread nD τ) scM fullShare d) ∗ (∃ r, prngReg c r)) := by
  unfold between; rw [dif_neg (by omega)]

theorem between_odd (c : Dev nD) (t : Fin (cfg0.N + 1)) (h : t.val % 2 = 1) :
    between m c t = iprop(owns (c : Thread nD τ) scM fullShare (codesAt m c ⟨t.val - 1, by have := t.isLt; omega⟩) ∗ (∃ r, prngReg c r)) := by
  unfold between; rw [dif_pos h]

set_option maxHeartbeats 1600000 in
/-- The body at a first point. -/
theorem sound_first (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_7, leaves_8]
  rw [show (dats m 0 c).owesAt () t.succ = (dats m 0 c).owesAt () t.castSucc from rfl,
    show (dats m 0 c).Φ t.succ = between m c t.succ from rfl, show (dats m 0 c).Φ t.castSucc = between m c t.castSucc from rfl,
    between_even m c t.castSucc h, between_odd m c t.succ (by rw [Fin.val_succ]; omega)]
  rw [show codesAt m c ⟨t.succ.val - 1, by have := t.succ.isLt; have := t.isLt; rw [Fin.val_succ]; omega⟩ = codesAt m c t from rfl]
  unfold outAt codesAt idxAt
  rw [base_of_even t h]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ _ _ ((first_iff t).mpr h) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body at a second point. -/
theorem sound_second (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_8 m c t h, leaves_0, leaves_1, leaves_2, leaves_3, leaves_4, leaves_5, leaves_6, leaves_7, leaves_8]
  rw [show (dats m 0 c).owesAt () t.succ = (dats m 0 c).owesAt () t.castSucc from rfl,
    show (dats m 0 c).Φ t.succ = between m c t.succ from rfl, show (dats m 0 c).Φ t.castSucc = between m c t.castSucc from rfl,
    between_odd m c t.castSucc h, between_even m c t.succ (by rw [Fin.val_succ]; omega)]
  rw [show codesAt m c ⟨t.castSucc.val - 1, by have := t.isLt; rw [Fin.val_castSucc]; omega⟩ = codesAt m c t from by
    unfold codesAt; rw [← base_pred t h]; rfl]
  unfold outAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_second c (grid0.coords t) _ _ _ _ _ _ _ _ _ _ _ _ _ _ _ _ _ _ _ _ (fun h' => by have := (first_iff t).mp h'; omega) (iblk m c 3 t) (iblk m c 4 t) (codesAt m c t) Set.univ _)
  isplitl [H3]; · iexact H3
  isplitl [H4]; · iexact H4
  isplitl [H7]; · iexists _; iexact H7
  isplitl [HS0]; · iexact HS0
  iintro ⟨H3, H4, H7, HS0⟩
  isplitl [HS0 Hg]
  · isplitl [HS0]
    · iexists _; iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  rcases Nat.mod_two_eq_zero_or_one t.val with h | h
  · exact triple_restated (sound_first m c t h) rfl .rfl fun _ => .rfl
  · exact triple_restated (sound_second m c t h) rfl .rfl fun _ => .rfl

set_option backward.isDefEq.respectTransparency.types false in
set_option maxHeartbeats 800000 in
/-- The launch: every run ends, with the arrays as the points' blocks make them, the later lines' results after them, and
    every semaphore counter at zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) (hQ' := fun _ h => h) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [PhiA_eq, show (dats m 0 c).Φ 0 = between m c 0 from rfl, between_even m c 0 rfl])
    (hout := fun c => by
      rw [PhiA_eq, show (dats m 0 c).Φ (Fin.last cfg0.N) = between m c (Fin.last cfg0.N) from rfl,
        between_even m c (Fin.last cfg0.N) (by rw [Fin.val_last, show cfg0.N = 4 from N_0])])

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.VersionIdeal.Value

end
-- ==== Proof.VersionIdeal.Arrays.lean ====
/-
The version's two result arrays: every element by the functions the kernel's are, of the arrays the launch finds, and the blocks the grid writes back
as the blocks of those arrays.
-/
module

public import proofs.«01_k».proof.Proof.VersionIdeal.Block
public import proofs.«01_k».proof.Proof.VersionIdeal.Run
public import proofs.«01_k».proof.Proof.KernelIdeal.Arrays
public import Idealize.ShloMosaic.Lib.Pipeline.Value

@[expose] public section

set_option maxRecDepth 16384

noncomputable section

namespace Cert.VersionIdeal.Value

open Idealize.ShloMosaic Idealize.ShloMosaic.TcCoe Idealize.SL.Sem
open Idealize.ShloMosaic.Pipeline (Dat)
open Cert.VersionIdeal Cert.VersionIdeal.Gen
open Cert.KernelIdeal.Value (latent rowLatent outRows idxRows)

variable (m : (ℓ : Loc nD τ sig) → Buf (Elt Ideal) ℓ) (ρ : Dev nD → PrngReg)

/-- What the launch finds in its operands' arrays, in order: rows, first weights, first bias, second weights, second bias,
    table, groups. -/
abbrev zV (c : Dev nD) : FVec Ideal S9216x768 .f32 := V m c main_v0
abbrev wV (c : Dev nD) : FVec Ideal S768x24 .f32 := V m c main_arg1
abbrev bV (c : Dev nD) : FVec Ideal S1x24 .f32 := V m c main_v1
abbrev woV (c : Dev nD) : FVec Ideal S24x768 .f32 := V m c main_arg3
abbrev boV (c : Dev nD) : FVec Ideal S1x768 .f32 := V m c main_v2
abbrev tbV (c : Dev nD) : FVec Ideal S6x24 .f32 := V m c main_cst
abbrev slV (c : Dev nD) : FVec Ideal S24x4 .f32 := V m c main_cst_0

/-! ## The operands' blocks -/

/-- Where every window's block of point `t` begins. -/
theorem starts : ∀ t : Fin grid0.N,
    (win0_0.index t 0 * win0_0.size 0 = t.val / 2 * 4608 ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = t.val % 2 * 384)
    ∧ (win0_4.index t 0 * win0_4.size 0 = 0 ∧ win0_4.index t 1 * win0_4.size 1 = t.val % 2 * 384)
    ∧ (win0_5.index t 0 * win0_5.size 0 = 0 ∧ win0_5.index t 1 * win0_5.size 1 = 0)
    ∧ (win0_6.index t 0 * win0_6.size 0 = 0 ∧ win0_6.index t 1 * win0_6.size 1 = 0)
    ∧ (win0_7.index t 0 * win0_7.size 0 = t.val / 2 * 4608 ∧ win0_7.index t 1 * win0_7.size 1 = t.val % 2 * 384)
    ∧ (win0_8.index t 0 * win0_8.size 0 = t.val / 2 * 4608 ∧ win0_8.index t 1 * win0_8.size 1 = 0) := by
  intro t
  rcases fin_N0 t with rfl | rfl | rfl | rfl <;> decide +kernel

theorem lt_four (t : Fin cfg0.N) : t.val < 4 := lt_of_lt_of_eq t.isLt N_0

/-- Row `r` of the row block of point `t`. -/
def rowOf (t : Fin cfg0.N) (r : Fin 4608) : Fin 9216 :=
  ⟨t.val / 2 * 4608 + r.val, by have := lt_four t; have := r.isLt; omega⟩

/-- Column `n` of the column block of point `t`. -/
def colOf (t : Fin cfg0.N) (n : Fin 384) : Fin 768 :=
  ⟨t.val % 2 * 384 + n.val, by have := n.isLt; omega⟩

theorem rowOf_base (t : Fin cfg0.N) (r : Fin 4608) : rowOf (base t) r = rowOf t r :=
  Fin.ext (by show 2 * (t.val / 2) / 2 * 4608 + r.val = t.val / 2 * 4608 + r.val; omega)

theorem blk0 (c : Dev nD) (t : Fin cfg0.N) (r : Fin 4608) (k : Fin 768) :
    iblk m c 0 t (ix2 r k) = zV m c (ix2 (rowOf t r) k) := by
  refine congrArg (zV m c) (funext fun a => Fin.ext ?_)
  match a with
  | ⟨0, _⟩ => show win0_0.index t 0 * win0_0.size 0 + 1 * r.val = t.val / 2 * 4608 + r.val; rw [(starts t).1.1]; omega
  | ⟨1, _⟩ => show win0_0.index t 1 * win0_0.size 1 + 1 * k.val = k.val; rw [(starts t).1.2]; omega

theorem blk1 (c : Dev nD) (t : Fin cfg0.N) (k : Fin 768) (l : Fin 24) :
    iblk m c 1 t (ix2 k l) = wV m c (ix2 k l) := by
  refine congrArg (wV m c) (funext fun a => Fin.ext ?_)
  match a with
  | ⟨0, _⟩ => show win0_1.index t 0 * win0_1.size 0 + 1 * k.val = k.val; rw [(starts t).2.1.1]; omega
  | ⟨1, _⟩ => show win0_1.index t 1 * win0_1.size 1 + 1 * l.val = l.val; rw [(starts t).2.1.2]; omega

theorem blk2 (c : Dev nD) (t : Fin cfg0.N) (k : Fin 1) (l : Fin 24) :
    iblk m c 2 t (ix2 k l) = bV m c (ix2 k l) := by
  refine congrArg (bV m c) (funext fun a => Fin.ext ?_)
  match a with
  | ⟨0, _⟩ => show win0_2.index t 0 * win0_2.size 0 + 1 * k.val = k.val; rw [(starts t).2.2.1.1]; omega
  | ⟨1, _⟩ => show win0_2.index t 1 * win0_2.size 1 + 1 * l.val = l.val; rw [(starts t).2.2.1.2]; omega

theorem blk3 (c : Dev nD) (t : Fin cfg0.N) (l : Fin 24) (n : Fin 384) :
    iblk m c 3 t (ix2 l n) = woV m c (ix2 l (colOf t n)) := by
  refine congrArg (woV m c) (funext fun a => Fin.ext ?_)
  match a with
  | ⟨0, _⟩ => show win0_3.index t 0 * win0_3.size 0 + 1 * l.val = l.val; rw [(starts t).2.2.2.1.1]; omega
  | ⟨1, _⟩ => show win0_3.index t 1 * win0_3.size 1 + 1 * n.val = t.val % 2 * 384 + n.val; rw [(starts t).2.2.2.1.2]; omega

theorem blk4 (c : Dev nD) (t : Fin cfg0.N) (k : Fin 1) (n : Fin 384) :
    iblk m c 4 t (ix2 k n) = boV m c (ix2 k (colOf t n)) := by
  refine congrArg (boV m c) (funext fun a => Fin.ext ?_)
  match a with
  | ⟨0, _⟩ => show win0_4.index t 0 * win0_4.size 0 + 1 * k.val = k.val; rw [(starts t).2.2.2.2.1.1]; omega
  | ⟨1, _⟩ => show win0_4.index t 1 * win0_4.size 1 + 1 * n.val = t.val % 2 * 384 + n.val; rw [(starts t).2.2.2.2.1.2]; omega

theorem blk5 (c : Dev nD) (t : Fin cfg0.N) (k : Fin 6) (l : Fin 24) :
    iblk m c 5 t (ix2 k l) = tbV m c (ix2 k l) := by
  refine congrArg (tbV m c) (funext fun a => Fin.ext ?_)
  match a with
  | ⟨0, _⟩ => show win0_5.index t 0 * win0_5.size 0 + 1 * k.val = k.val; rw [(starts t).2.2.2.2.2.1.1]; omega
  | ⟨1, _⟩ => show win0_5.index t 1 * win0_5.size 1 + 1 * l.val = l.val; rw [(starts t).2.2.2.2.2.1.2]; omega

theorem blk6 (c : Dev nD) (t : Fin cfg0.N) (l : Fin 24) (g : Fin 4) :
    iblk m c 6 t (ix2 l g) = slV m c (ix2 l g) := by
  refine congrArg (slV m c) (funext fun a => Fin.ext ?_)
  match a with
  | ⟨0, _⟩ => show win0_6.index t 0 * win0_6.size 0 + 1 * l.val = l.val; rw [(starts t).2.2.2.2.2.2.1.1]; omega
  | ⟨1, _⟩ => show win0_6.index t 1 * win0_6.size 1 + 1 * g.val = g.val; rw [(starts t).2.2.2.2.2.2.1.2]; omega

/-! ## What is written back -/

/-- The decoded array of device `c`'s operands, and its index array. -/
abbrev outV (c : Dev nD) : FVec Ideal S9216x768 .f32 := outRows (zV m c) (wV m c) (bV m c) (woV m c) (boV m c) (tbV m c)
abbrev idxV (c : Dev nD) : IVec S9216x4 32 := idxRows (zV m c) (wV m c) (bV m c) (tbV m c) (slV m c)

/-- The block of decoded elements of point `t`. -/
theorem outAt_apply (c : Dev nD) (t : Fin cfg0.N) (r : Fin 4608) (n : Fin 384) :
    outAt m c t (ix2 r n) = outV m c (ix2 (rowOf t r) (colOf t n)) := by
  unfold outAt codesAt outV outRows rowLatent
  rw [pay1_apply]
  refine congrArg₂ (· + ·) (Finset.sum_congr rfl fun l _ => congrArg₂ (· * ·) ?_ (blk3 m c t l n)) (blk4 m c t 0 n)
  refine (codesOf_apply _ _ _ _ r l).trans ?_
  simp only [blk0, blk1, blk2, blk5, rowOf_base, ix2_0]

/-- The block of indices of point `t`. -/
theorem idxAt_apply (c : Dev nD) (t : Fin cfg0.N) (r : Fin 4608) (g : Fin 4) :
    idxAt m c t (ix2 r g) = idxV m c (ix2 (rowOf t r) g) := by
  unfold idxAt idxV idxRows rowLatent
  refine (idxOf_apply _ _ _ _ _ r g).trans ?_
  simp only [blk0, blk1, blk2, blk5, blk6, rowOf_base, ix2_0, ix2_1]

/-- What point `t` writes back of the first result is its block of the decoded array. -/
theorem flushed7 (c : Dev nD) (t : Fin cfg0.N) :
    (dats m 0 c).flushed 7 t = ((cfg0.win 7).blk t).view.read (Elt Ideal) (outV m c) := by
  show (cfg0.win 7).cut (grid0.coords t) ((dats m 0 c).after 7 t) = _
  rw [after_7]
  refine funext fun (j : S4608x384.Idx) => ?_
  idx_vars j
  refine (outAt_apply m c t j0 j1).trans (congrArg (outV m c) (funext fun a => Fin.ext ?_))
  match a with
  | ⟨0, _⟩ => show t.val / 2 * 4608 + j0.val = win0_7.index t 0 * win0_7.size 0 + 1 * j0.val
              rw [(starts t).2.2.2.2.2.2.2.1.1]; omega
  | ⟨1, _⟩ => show t.val % 2 * 384 + j1.val = win0_7.index t 1 * win0_7.size 1 + 1 * j1.val
              rw [(starts t).2.2.2.2.2.2.2.1.2]; omega

/-- What point `t` writes back of the second result is its block of the index array. -/
theorem flushed8 (c : Dev nD) (t : Fin cfg0.N) :
    (dats m 0 c).flushed 8 t = ((cfg0.win 8).blk t).view.read (Elt Ideal) (idxV m c) := by
  show (cfg0.win 8).cut (grid0.coords t) ((dats m 0 c).after 8 t) = _
  rw [after_8]
  refine funext fun (j : S4608x4.Idx) => ?_
  idx_vars j
  refine (idxAt_apply m c t j0 j1).trans (congrArg (idxV m c) (funext fun a => Fin.ext ?_))
  match a with
  | ⟨0, _⟩ => show t.val / 2 * 4608 + j0.val = win0_8.index t 0 * win0_8.size 0 + 1 * j0.val
              rw [(starts t).2.2.2.2.2.2.2.2.1]; omega
  | ⟨1, _⟩ => show j1.val = win0_8.index t 1 * win0_8.size 1 + 1 * j1.val
              rw [(starts t).2.2.2.2.2.2.2.2.2]; omega

/-! ## The blocks cover the arrays -/

theorem extents : ∀ t : Fin grid0.N,
    (win0_7.xsize (grid0.coords t) 0 = 4608 ∧ win0_7.xsize (grid0.coords t) 1 = 384)
    ∧ (win0_8.xsize (grid0.coords t) 0 = 4608 ∧ win0_8.xsize (grid0.coords t) 1 = 4) := by
  intro t
  rcases fin_N0 t with rfl | rfl | rfl | rfl <;> decide +kernel

theorem mem7 (t : Fin cfg0.N) (i : S9216x768.Idx) (h0 : t.val / 2 * 4608 ≤ (i 0 : Nat) ∧ (i 0 : Nat) < t.val / 2 * 4608 + 4608)
    (h1 : t.val % 2 * 384 ≤ (i 1 : Nat) ∧ (i 1 : Nat) < t.val % 2 * 384 + 384) : i ∈ ((cfg0.win 7).blk t).view.set := by
  show i ∈ ((View.whole main_v3_0).slice (win0_7.rect t)).set
  rw [View.set_slice_whole, Rect.mem_set_unit]
  intro a
  match a with
  | ⟨0, _⟩ => show win0_7.index t 0 * win0_7.size 0 ≤ (i 0 : Nat) ∧ (i 0 : Nat) < win0_7.index t 0 * win0_7.size 0 + win0_7.xsize (grid0.coords t) 0
              rw [(starts t).2.2.2.2.2.2.2.1.1, (extents t).1.1]; exact h0
  | ⟨1, _⟩ => show win0_7.index t 1 * win0_7.size 1 ≤ (i 1 : Nat) ∧ (i 1 : Nat) < win0_7.index t 1 * win0_7.size 1 + win0_7.xsize (grid0.coords t) 1
              rw [(starts t).2.2.2.2.2.2.2.1.2, (extents t).1.2]; exact h1

theorem mem8 (t : Fin cfg0.N) (i : S9216x4.Idx) (h0 : t.val / 2 * 4608 ≤ (i 0 : Nat) ∧ (i 0 : Nat) < t.val / 2 * 4608 + 4608) :
    i ∈ ((cfg0.win 8).blk t).view.set := by
  show i ∈ ((View.whole main_v3_1).slice (win0_8.rect t)).set
  rw [View.set_slice_whole, Rect.mem_set_unit]
  have h1 : (i 1 : Nat) < 4 := (i 1).isLt
  intro a
  match a with
  | ⟨0, _⟩ => show win0_8.index t 0 * win0_8.size 0 ≤ (i 0 : Nat) ∧ (i 0 : Nat) < win0_8.index t 0 * win0_8.size 0 + win0_8.xsize (grid0.coords t) 0
              rw [(starts t).2.2.2.2.2.2.2.2.1, (extents t).2.1]; exact h0
  | ⟨1, _⟩ => show win0_8.index t 1 * win0_8.size 1 ≤ (i 1 : Nat) ∧ (i 1 : Nat) < win0_8.index t 1 * win0_8.size 1 + win0_8.xsize (grid0.coords t) 1
              rw [(starts t).2.2.2.2.2.2.2.2.2, (extents t).2.2]; omega

/-- After the launch the first result's array is the decoded array, -/
theorem final7 (c : Dev nD) : (dats m 0 c).arrAt 7 cfg0.N = outV m c :=
  (dats m 0 c).arrAt_eq_of_cover 7 (outV m c) (fun t _ => flushed7 m c t) fun (i : S9216x768.Idx) => by
    have h0 : (i 0 : Nat) < 9216 := (i 0).isLt
    have h1 : (i 1 : Nat) < 768 := (i 1).isLt
    have ht : 2 * ((i 0 : Nat) / 4608) + (i 1 : Nat) / 384 < 4 := by omega
    refine ⟨⟨2 * ((i 0 : Nat) / 4608) + (i 1 : Nat) / 384, lt_of_lt_of_eq ht N_0.symm⟩, flush0_7 _, mem7 _ i ?_ ?_⟩
    · dsimp only; omega
    · dsimp only; omega

/-- and the second result's the index array. -/
theorem final8 (c : Dev nD) : (dats m 0 c).arrAt 8 cfg0.N = idxV m c :=
  (dats m 0 c).arrAt_eq_of_cover 8 (idxV m c) (fun t _ => flushed8 m c t) fun (i : S9216x4.Idx) => by
    have h0 : (i 0 : Nat) < 9216 := (i 0).isLt
    have ht : 2 * ((i 0 : Nat) / 4608) + 1 < 4 := by omega
    refine ⟨⟨2 * ((i 0 : Nat) / 4608) + 1, lt_of_lt_of_eq ht N_0.symm⟩, (flush0_8 _).mpr (by dsimp only; omega), mem8 _ i ?_⟩
    dsimp only; omega

end Cert.VersionIdeal.Value

end
-- ==== Proof.VersionIdeal.Host.lean ====
/-
What the host operations before the launch of the version as it stands leave in its operands' arrays, element by element.
-/
module

public import proofs.«01_k».proof.Proof.Gen.VersionIdeal.Frame
public import Idealize.ShloMosaic.Lib.Pointwise
public import Idealize.ShloMosaic.Lib.StableHlo.Run

@[expose] public section

set_option maxRecDepth 16384

noncomputable section

namespace Cert.VersionIdeal.Value

open Idealize.ShloMosaic Idealize.ShloMosaic.TcCoe Idealize.ShloMosaic.StableHlo Idealize.SL.Sem
open Cert.VersionIdeal Cert.VersionIdeal.Gen

section Arrays

variable {F : FTy → Type} [FloatOps F]
variable (m : (ℓ : Loc nD τ sig) → Buf (Elt F) ℓ)

/-- The stored table, row by row: shift, half level, offset, half width, its inverse, basis. -/
def table : FVec F S6x24 .f32 := fun i => FloatOps.ofBits .f32 (lit0 (S6x24.rowMajor i))

theorem V_rows (c : Dev nD) :
    V m c main_v0 = shapeCast S9216x768 (m ((c : Thread nD τ).loc main_arg0)) shapeCasts_S16x576x768_S9216x768 := by
  show StableHlo.after _ _ _ = _
  simp only [hostOps0, List.flatten_cons, List.flatten_nil, List.append_nil]
  after_results
  all_goals rfl

theorem V_bias (c : Dev nD) :
    V m c main_v1 = shapeCast S1x24 (m ((c : Thread nD τ).loc main_arg2)) shapeCasts_S24_S1x24 := by
  show StableHlo.after _ _ _ = _
  simp only [hostOps0, List.flatten_cons, List.flatten_nil, List.append_nil]
  after_results
  all_goals rfl

theorem V_outBias (c : Dev nD) :
    V m c main_v2 = shapeCast S1x768 (m ((c : Thread nD τ).loc main_arg4)) shapeCasts_S768_S1x768 := by
  show StableHlo.after _ _ _ = _
  simp only [hostOps0, List.flatten_cons, List.flatten_nil, List.append_nil]
  after_results
  all_goals rfl

theorem V_groups (c : Dev nD) :
    V m c main_cst_0 = fun i => FloatOps.ofBits .f32 (lit1 (S24x4.rowMajor i)) := by
  show StableHlo.after _ _ _ = _
  simp only [hostOps0, List.flatten_cons, List.flatten_nil, List.append_nil]
  after_results
  all_goals rfl

theorem V_table (c : Dev nD) : V m c main_cst = table := by
  show StableHlo.after _ _ _ = _
  simp only [hostOps0, List.flatten_cons, List.flatten_nil, List.append_nil]
  after_results
  all_goals rfl

end Arrays

/-! ## The stored table, lane by lane -/

theorem rowMajor6x24 (k : Fin 6) (l : Fin 24) :
    S6x24.rowMajor (ix2 k l) = (⟨24 * k.val + l.val, by have := k.isLt; have := l.isLt; omega⟩ : Fin 144) :=
  Fin.ext ((by decide : ∀ (k : Fin 6) (l : Fin 24), (S6x24.rowMajor (ix2 k l)).val = 24 * k.val + l.val) k l)

theorem table_apply (k : Fin 6) (l : Fin 24) :
    table (F := Ideal) (ix2 k l) = Ideal.ofBits .f32 (lit0 ⟨24 * k.val + l.val, by have := k.isLt; have := l.isLt; omega⟩) :=
  congrArg (fun x => Ideal.ofBits .f32 (lit0 x)) (rowMajor6x24 k l)

end Cert.VersionIdeal.Value

end
-- ==== Proof.VersionIdeal.Results.lean ====
/-
The version's two results after its run: the decoded array and the index array of its operands, in the results' shapes.
-/
module

public import proofs.«01_k».proof.Proof.VersionIdeal.Arrays
public import proofs.«01_k».proof.Proof.VersionIdeal.Host

@[expose] public section

set_option maxRecDepth 16384

noncomputable section

namespace Cert.VersionIdeal.Value

open Idealize.ShloMosaic Idealize.ShloMosaic.TcCoe Idealize.ShloMosaic.StableHlo Idealize.SL.Sem
open Cert.VersionIdeal Cert.VersionIdeal.Gen

variable (m : (ℓ : Loc nD τ sig) → Buf (Elt Ideal) ℓ) (ρ : Dev nD → PrngReg)

theorem arrays_distinct : Function.Injective (Pipeline.arrRef spec0) := by decide

/-- The first result is the launch's first array, reshaped. -/
theorem tail_out (c : Dev nD) :
    Pipeline.afterTail₀ cfgs (dats m) 0 (V0 m) [hostOps1] c main_v4
      = shapeCast S16x576x768 (outV m c) shapeCasts_S9216x768_S16x576x768 := by
  unfold Pipeline.afterTail₀
  simp only [hostOps1, List.flatten_cons, List.flatten_nil, List.append_nil]
  after_results
  refine congrArg (fun x => shapeCast S16x576x768 x shapeCasts_S9216x768_S16x576x768) ?_
  exact (Pipeline.withArrays_arr spec0 arrays_distinct c (V0 m c) (fun w => (dats m 0 c).arrAt w cfg0.N) 7).trans (final7 m c)

/-- The second result is the launch's second array, reshaped. -/
theorem tail_idx (c : Dev nD) :
    Pipeline.afterTail₀ cfgs (dats m) 0 (V0 m) [hostOps1] c main_v5
      = shapeCast S16x576x4 (idxV m c) shapeCasts_S9216x4_S16x576x4 := by
  unfold Pipeline.afterTail₀
  simp only [hostOps1, List.flatten_cons, List.flatten_nil, List.append_nil]
  after_results
  refine congrArg (fun x => shapeCast S16x576x4 x shapeCasts_S9216x4_S16x576x4) ?_
  exact (Pipeline.withArrays_arr spec0 arrays_distinct c (V0 m c) (fun w => (dats m 0 c).arrAt w cfg0.N) 8).trans (final8 m c)

/-- The version's run: both results at their functions of the operands, the arguments unchanged. -/
theorem run : θ_run defs (onTc (τ := τ) (main (F := Ideal))) ⟨m, fun _ => 0, ρ⟩ fun r => ∀ c : Dev nD,
      r.2.mem ((c.tc : Thread nD τ).loc main_v4) = shapeCast S16x576x768 (outV m c) shapeCasts_S9216x768_S16x576x768
      ∧ r.2.mem ((c.tc : Thread nD τ).loc main_v5) = shapeCast S16x576x4 (idxV m c) shapeCasts_S9216x4_S16x576x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h.1 c).2 main_v4 (Pipeline.mem_restRefs_of main_v4 (by decide) (by decide))).trans (tail_out m c),
       ((h.1 c).2 main_v5 (Pipeline.mem_restRefs_of main_v5 (by decide) (by decide))).trans (tail_idx m c),
       ((h.1 c).2 main_arg0 (Pipeline.mem_restRefs_of main_arg0 (by decide) (by decide))).trans (W_main_arg0 m (dats m) c),
       ((h.1 c).1 1).trans (((dats m 0 c).arrAt_in 1 rfl _).trans ((A_eq m c 1).trans (V_main_arg1 m c))),
       ((h.1 c).2 main_arg2 (Pipeline.mem_restRefs_of main_arg2 (by decide) (by decide))).trans (W_main_arg2 m (dats m) c),
       ((h.1 c).1 3).trans (((dats m 0 c).arrAt_in 3 rfl _).trans ((A_eq m c 3).trans (V_main_arg3 m c))),
       ((h.1 c).2 main_arg4 (Pipeline.mem_restRefs_of main_arg4 (by decide) (by decide))).trans (W_main_arg4 m (dats m) c)⟩)
    (run_main_quiescent m ρ)

end Cert.VersionIdeal.Value

end
-- ==== Proof.StoredIdeal.Reading.lean ====
/-
The two results of the reference with its two derived rows stored: the reference's terms with those rows as words, read element by
element.
-/
module

public import proofs.«01_k».proof.Proof.Gen.StoredIdeal.Run
public import proofs.«01_k».proof.Proof.ReferenceIdeal.Reading
public import Idealize.ShloMosaic.Lib.Pointwise

@[expose] public section

set_option maxRecDepth 16384

noncomputable section

namespace Cert.StoredIdeal.Reading

open Idealize.ShloMosaic Idealize.ShloMosaic.TcCoe Idealize.SL.Sem
open Cert.StoredIdeal Cert.StoredIdeal.Gen Cert.StoredIdeal.Value
open Cert.ReferenceIdeal.Reading (spread projected offsetRow widthRow basisRow offsetAt widthAt offsetRow_apply widthRow_apply
  basisRow_apply rowMajor6)

section Terms

variable {F : FTy → Type} [FloatOps F]

/-- The stored half levels and shifts. -/
def halfRow : FVec F S6 .f32 := fun i => FloatOps.ofBits .f32 (lit2 (S6.rowMajor i))
def shiftRow : FVec F S6 .f32 := fun i => FloatOps.ofBits .f32 (lit3 (S6.rowMajor i))

variable (z : FVec F S16x576x768 .f32) (w : FVec F S768x24 .f32) (b : FVec F S24 .f32)
variable (wo : FVec F S24x768 .f32) (bo : FVec F S768 .f32)

def bounded : FVec F S16x576x4x6 .f32 :=
  subf (mulf (Host.tanh (addf (projected z w b) (spread shiftRow))) (spread halfRow)) (spread (id offsetRow))
def quantized : FVec F S16x576x4x6 .f32 :=
  addf (bounded z w b) (subf (Host.roundeven (bounded z w b)) (bounded z w b))
def codes : FVec F S16x576x4x6 .f32 := Host.divf (quantized z w b) (spread widthRow)
def indices : IVec S16x576x4 32 :=
  fptosi 32 (Host.reduceAdd (mulf (addf (mulf (codes z w b) (spread widthRow)) (spread widthRow)) (spread basisRow))
    (constant S_ .f32 0x00000000#32) reducesTo_S16x576x4x6_S16x576x4_d3 h_S_)
def decoded : FVec F S16x576x768 .f32 :=
  addf (Host.dotGeneral dot_S16x576x24_S24x768_S16x576x768_2_0_01_1_n_n none
      (shapeCast S16x576x24 (codes z w b) shapeCasts_S16x576x4x6_S16x576x24) wo)
    (broadcastInDim S16x576x768 ![0, 1, 2] bcast_S1x1x768_S16x576x768_0_1_2 (broadcastInDim S1x1x768 ![2] bcast_S768_S1x1x768_2 bo))

variable (m : (ℓ : Loc nD τ sig) → Buf (Elt F) ℓ)

/-- The run's terms are these. -/
theorem res_idx (c : Dev nD) : res_out1 m c
    = indices (m ((c.tc : Thread nD τ).loc main_arg0)) (m ((c.tc : Thread nD τ).loc main_arg1)) (m ((c.tc : Thread nD τ).loc main_arg2)) := by
  rfl
theorem res_out (c : Dev nD) : res_out0 m c
    = decoded (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rfl

end Terms

/-! ## The stored rows, level by level -/

/-- The half level and the shift of a level. -/
def halfAt (d : Fin 6) : EReal := Ideal.ofBits .f32 (lit2 d)
def shiftAt (d : Fin 6) : EReal := Ideal.ofBits .f32 (lit3 d)

theorem halfRow_apply (d : Fin 6) : halfRow (F := Ideal) (ix1 d) = halfAt d :=
  congrArg (fun x => Ideal.ofBits .f32 (lit2 x)) (rowMajor6 d)
theorem shiftRow_apply (d : Fin 6) : shiftRow (F := Ideal) (ix1 d) = shiftAt d :=
  congrArg (fun x => Ideal.ofBits .f32 (lit3 x)) (rowMajor6 d)

/-! ## The results, element by element -/

section Elements

variable (z : FVec Ideal S16x576x768 .f32) (w : FVec Ideal S768x24 .f32) (b : FVec Ideal S24 .f32)
variable (wo : FVec Ideal S24x768 .f32) (bo : FVec Ideal S768 .f32)

/-- The bounded latent of a projection. -/
def boundedAt (p : EReal) (d : Fin 6) : EReal := Ideal.tanh (p + shiftAt d) * halfAt d - offsetAt d
/-- Its code. -/
def codeAt (p : EReal) (d : Fin 6) : EReal :=
  Ideal.div (boundedAt p d + (Ideal.liftRound Ideal.roundHalfEven (boundedAt p d) - boundedAt p d)) (widthAt d)

theorem codes_apply (i : Fin 16) (s : Fin 576) (g : Fin 4) (d : Fin 6) :
    codes z w b (ix4 i s g d)
      = codeAt ((∑ k : Fin 768, z (ix3 i s k) * w (ix2 k ⟨g.val * 6 + d.val, by have := g.isLt; have := d.isLt; omega⟩))
          + b (ix1 ⟨g.val * 6 + d.val, by have := g.isLt; have := d.isLt; omega⟩)) d := by
  pointwise [codes, quantized, bounded, projected, spread, id, halfRow_apply, offsetRow_apply, shiftRow_apply, widthRow_apply, codeAt, boundedAt]

theorem indices_apply (i : Fin 16) (s : Fin 576) (g : Fin 4) :
    indices z w b (ix3 i s g)
      = Ideal.fptosi 32 (∑ d : Fin 6, (codes z w b (ix4 i s g d) * widthAt d + widthAt d)
          * (((Cert.ReferenceIdeal.lit1 d).toInt : ℝ) : EReal)) := by
  pointwise [indices, spread, widthRow_apply, basisRow_apply]
  rfl

theorem decoded_apply (i : Fin 16) (s : Fin 576) (n : Fin 768) :
    decoded z w b wo bo (ix3 i s n)
      = (∑ l : Fin 24, codes z w b (ix4 i s ⟨l.val / 6, by have := l.isLt; omega⟩ ⟨l.val % 6, Nat.mod_lt _ (by decide)⟩) * wo (ix2 l n))
        + bo (ix1 n) := by
  pointwise [decoded]

end Elements

end Cert.StoredIdeal.Reading

end
-- ==== Proof.StoredAgreement.lean ====
/-
The version as it stands against the reference with its two derived rows stored: the same equality of both results, and the
claims' conjuncts.
-/
module

public import proofs.«01_k».proof.Defs
public import proofs.«01_k».proof.Proof.Agreement
public import proofs.«01_k».proof.Proof.VersionIdeal.Results
public import proofs.«01_k».proof.Proof.StoredIdeal.Reading
public import Idealize.ShloMosaic.Lib.Quiescent

@[expose] public section

set_option maxRecDepth 16384

noncomputable section

namespace Cert.StoredEquation

open Idealize.ShloMosaic Idealize.ShloMosaic.TcCoe Idealize.SL.Sem
open Cert.Equation (levelOf bookOf lane levelOf_lane lane_of word_normal tanh_real offset_real offset_lane width_lane basis_lane
  straight rescaled inverse_lane sum_group rows bias outBias groups proj rows_at)
open Cert.ReferenceIdeal.Reading (offsetAt widthAt)
open Cert.StoredIdeal.Reading (halfAt shiftAt boundedAt codeAt)
open Cert.KernelIdeal.Value (latent outRows idxRows rowLatent)
open Cert.VersionIdeal.Value (table table_apply)
open Cert.VersionIdeal (S9216x768 S9216x4 S1x24 S1x768 S16x576x768 S16x576x4 S768x24 S24 S24x768 S768 S24x4)

/-! ## The stored table's rows, lane by lane -/

/-- The stored shifts and half levels of a lane are the reference's stored words of its level; -/
theorem shift_word : ∀ l : Fin 24, Cert.VersionIdeal.lit0 ⟨24 * 0 + l.val, by omega⟩ = Cert.StoredIdeal.lit3 ⟨l.val % 6, by omega⟩ := by
  decide
theorem half_word : ∀ l : Fin 24, Cert.VersionIdeal.lit0 ⟨24 * 1 + l.val, by omega⟩ = Cert.StoredIdeal.lit2 ⟨l.val % 6, by omega⟩ := by
  decide

/-- the four exact rows are the ones the kernel's table has, -/
theorem offset_word : ∀ l : Fin 24, Cert.VersionIdeal.lit0 ⟨24 * 2 + l.val, by omega⟩ = Cert.KernelIdeal.lit1 l := by decide
theorem width_word : ∀ l : Fin 24, Cert.VersionIdeal.lit0 ⟨24 * 3 + l.val, by omega⟩ = Cert.KernelIdeal.lit3 l := by decide
theorem inverse_word : ∀ l : Fin 24, Cert.VersionIdeal.lit0 ⟨24 * 4 + l.val, by omega⟩ = Cert.KernelIdeal.lit4 l := by decide
theorem basis_word : ∀ l : Fin 24, Cert.VersionIdeal.lit0 ⟨24 * 5 + l.val, by omega⟩ = Cert.KernelIdeal.lit5 l := by decide

/-- and so is the matrix of codebooks. -/
theorem groups_word : ∀ n : Fin 96, Cert.VersionIdeal.lit1 n = Cert.KernelIdeal.lit6 n := by decide

theorem table_shift (l : Fin 24) : table (F := Ideal) (ix2 0 l) = shiftAt (levelOf l) :=
  (table_apply 0 l).trans (congrArg (Ideal.ofBits .f32) (shift_word l))
theorem table_half (l : Fin 24) : table (F := Ideal) (ix2 1 l) = halfAt (levelOf l) :=
  (table_apply 1 l).trans (congrArg (Ideal.ofBits .f32) (half_word l))
theorem table_offset (l : Fin 24) : table (F := Ideal) (ix2 2 l) = offsetAt (levelOf l) :=
  (table_apply 2 l).trans ((congrArg (Ideal.ofBits .f32) (offset_word l)).trans (offset_lane l))
theorem table_width (l : Fin 24) : table (F := Ideal) (ix2 3 l) = widthAt (levelOf l) :=
  (table_apply 3 l).trans ((congrArg (Ideal.ofBits .f32) (width_word l)).trans (width_lane l))
theorem table_inverse (l : Fin 24) : table (F := Ideal) (ix2 4 l) = Ideal.ofBits .f32 (Cert.KernelIdeal.lit4 l) :=
  (table_apply 4 l).trans (congrArg (Ideal.ofBits .f32) (inverse_word l))
theorem table_basis (l : Fin 24) :
    table (F := Ideal) (ix2 5 l) = (((Cert.ReferenceIdeal.lit1 (levelOf l)).toInt : ℝ) : EReal) :=
  (table_apply 5 l).trans ((congrArg (Ideal.ofBits .f32) (basis_word l)).trans (basis_lane l))

/-! ## One lane's arithmetic -/

/-- The stored half levels are two words, and both are real numbers, -/
theorem half_words : ∀ d : Fin 6, Cert.StoredIdeal.lit2 d = if d.val < 3 then 0x40603959#32 else 0x400020C5#32 := by decide
theorem half_real (d : Fin 6) : ∃ x : ℝ, halfAt d = (x : EReal) := by
  unfold halfAt
  rw [half_words d]
  by_cases h : d.val < 3
  · exact ⟨_, (congrArg (Ideal.ofBits .f32) (if_pos h)).trans
      (word_normal _ 128 6306137 (by decide) (by decide) (by decide) (by decide) (by decide))⟩
  · exact ⟨_, (congrArg (Ideal.ofBits .f32) (if_neg h)).trans
      (word_normal _ 128 8389 (by decide) (by decide) (by decide) (by decide) (by decide))⟩

/-- so the bounded latent is one, whatever the projection and the shift. -/
theorem bounded_real (p : EReal) (d : Fin 6) : ∃ x : ℝ, boundedAt p d = (x : EReal) := by
  obtain ⟨t, ht⟩ := tanh_real (p + shiftAt d)
  obtain ⟨h, hh⟩ := half_real d
  obtain ⟨o, ho⟩ := offset_real d
  refine ⟨t * h - o, ?_⟩
  unfold boundedAt
  rw [ht, ho, hh]
  push_cast
  rfl

/-- The rounded latent. -/
abbrev roundedAt (p : EReal) (d : Fin 6) : EReal := Ideal.liftRound Ideal.roundHalfEven (boundedAt p d)

/-- The code is the rounded latent over the half width. -/
theorem code_eq (p : EReal) (d : Fin 6) : codeAt p d = Ideal.div (roundedAt p d) (widthAt d) := by
  obtain ⟨x, hx⟩ := bounded_real p d
  unfold codeAt roundedAt
  rw [hx, straight]

/-- Scaling the code back is adding the half width to the rounded latent. -/
theorem scaled_eq (p : EReal) (d : Fin 6) : codeAt p d * widthAt d + widthAt d = roundedAt p d + widthAt d := by
  obtain ⟨x, hx⟩ := bounded_real p d
  rw [code_eq]
  unfold roundedAt
  rw [hx, rescaled]

/-- The table's factor is the division. -/
theorem code_lane (p : EReal) (l : Fin 24) :
    roundedAt p (levelOf l) * Ideal.ofBits .f32 (Cert.KernelIdeal.lit4 l) = codeAt p (levelOf l) := by
  rw [code_eq, inverse_lane]

/-! ## The two results -/

variable (z : FVec Ideal S16x576x768 .f32) (w : FVec Ideal S768x24 .f32) (b : FVec Ideal S24 .f32)
variable (wo : FVec Ideal S24x768 .f32) (bo : FVec Ideal S768 .f32)

/-- The version's latent of a token's row and a lane is the stored reference's rounded latent. -/
theorem rowLatent_eq (i : Fin 16) (s : Fin 576) (l : Fin 24) :
    rowLatent (rows z) w (bias b) table (Cert.Equation.rowOf i s) l = roundedAt (proj z w b i s l) (levelOf l) := by
  unfold rowLatent latent roundedAt boundedAt proj
  rw [table_shift, table_half, table_offset, show bias b (ix2 0 l) = b (ix1 l) from Cert.KernelIdeal.Value.bias_apply b l]
  simp only [rows_at]

/-- The stored reference's code at a lane. -/
theorem codes_lane (i : Fin 16) (s : Fin 576) (g : Fin 4) (d : Fin 6) :
    Cert.StoredIdeal.Reading.codes z w b (ix4 i s g d) = codeAt (proj z w b i s (lane g d)) d :=
  Cert.StoredIdeal.Reading.codes_apply z w b i s g d

/-- The decoded arrays agree, -/
theorem decoded_eq :
    shapeCast S16x576x768 (outRows (rows z) w (bias b) wo (outBias bo) table) Cert.VersionIdeal.Gen.shapeCasts_S9216x768_S16x576x768
      = Cert.StoredIdeal.Reading.decoded z w b wo bo := by
  refine funext fun (j : S16x576x768.Idx) => ?_
  idx_vars j
  refine (Cert.KernelIdeal.Value.outShape_apply _ j0 j1 j2).trans
    (Eq.trans ?_ (Cert.StoredIdeal.Reading.decoded_apply z w b wo bo j0 j1 j2).symm)
  refine congrArg₂ (· + ·) (Finset.sum_congr rfl fun l _ => congrArg₂ (· * ·) ?_ rfl) (Cert.KernelIdeal.Value.outBias_apply bo j2)
  refine (congrArg₂ (· * ·) (rowLatent_eq z w b j0 j1 l) (table_inverse l)).trans ((code_lane _ l).trans ?_)
  refine Eq.trans ?_ (codes_lane z w b j0 j1 (bookOf l) (levelOf l)).symm
  rw [lane_of]

/-- and so do the indices. -/
theorem indices_eq :
    shapeCast S16x576x4 (idxRows (rows z) w (bias b) table groups) Cert.VersionIdeal.Gen.shapeCasts_S9216x4_S16x576x4
      = Cert.StoredIdeal.Reading.indices z w b := by
  refine funext fun (j : S16x576x4.Idx) => ?_
  idx_vars j
  refine (Cert.KernelIdeal.Value.idxShape_apply _ j0 j1 j2).trans
    (Eq.trans ?_ (Cert.StoredIdeal.Reading.indices_apply z w b j0 j1 j2).symm)
  refine congrArg (Ideal.fptosi 32) ?_
  refine Eq.trans (Finset.sum_congr rfl fun l _ => ?_) ((sum_group (fun l =>
    (codeAt (proj z w b j0 j1 l) (levelOf l) * widthAt (levelOf l) + widthAt (levelOf l))
      * (((Cert.ReferenceIdeal.lit1 (levelOf l)).toInt : ℝ) : EReal)) j2).trans (Finset.sum_congr rfl fun d _ => ?_))
  · refine congrArg₂ (· * ·) (congrArg₂ (· * ·) ?_ (table_basis l)) ?_
    · rw [scaled_eq]
      exact congrArg₂ (· + ·) (rowLatent_eq z w b j0 j1 l) (table_width l)
    · exact congrArg (fun x => Ideal.ofBits .f32 (Cert.KernelIdeal.lit6 x)) (Cert.KernelIdeal.Value.rowMajor24x4 l j2)
  · rw [levelOf_lane, codes_lane]

/-- The version's matrix of codebooks is the kernel's. -/
theorem groups_eq : ((fun i => FloatOps.ofBits .f32 (Cert.VersionIdeal.lit1 (S24x4.rowMajor i))) : FVec Ideal S24x4 .f32) = groups :=
  funext fun i => congrArg (Ideal.ofBits .f32) (groups_word (S24x4.rowMajor i))

end Cert.StoredEquation

/-! ## The claims -/

namespace Cert.StoredClaims

open Idealize.ShloMosaic Idealize.ShloMosaic.TcCoe Idealize.SL.Sem
open Cert.VersionIdeal.Value Cert.VersionIdeal.Gen

variable (m : (ℓ : Loc Cert.VersionIdeal.nD Cert.VersionIdeal.τ Cert.VersionIdeal.sig) → Buf (Elt Ideal) ℓ) (c : Dev Cert.VersionIdeal.nD)

/-- What the version leaves in its first result is the stored reference's decoded array of its arguments, -/
theorem version_out :
    shapeCast Cert.VersionIdeal.S16x576x768 (outV m c) shapeCasts_S9216x768_S16x576x768
      = Cert.StoredIdeal.Reading.decoded (F := Ideal) (m ((c.tc : Thread Cert.VersionIdeal.nD Cert.VersionIdeal.τ).loc Cert.VersionIdeal.main_arg0))
        (m ((c.tc : Thread Cert.VersionIdeal.nD Cert.VersionIdeal.τ).loc Cert.VersionIdeal.main_arg1))
        (m ((c.tc : Thread Cert.VersionIdeal.nD Cert.VersionIdeal.τ).loc Cert.VersionIdeal.main_arg2))
        (m ((c.tc : Thread Cert.VersionIdeal.nD Cert.VersionIdeal.τ).loc Cert.VersionIdeal.main_arg3))
        (m ((c.tc : Thread Cert.VersionIdeal.nD Cert.VersionIdeal.τ).loc Cert.VersionIdeal.main_arg4)) := by
  refine Eq.trans ?_ (Cert.StoredEquation.decoded_eq _ _ _ _ _)
  unfold outV zV wV bV woV boV tbV
  rw [V_rows, V_bias, V_outBias, V_table, V_main_arg1, V_main_arg3]

/-- and in its second the stored reference's indices. -/
theorem version_idx :
    shapeCast Cert.VersionIdeal.S16x576x4 (idxV m c) shapeCasts_S9216x4_S16x576x4
      = Cert.StoredIdeal.Reading.indices (F := Ideal) (m ((c.tc : Thread Cert.VersionIdeal.nD Cert.VersionIdeal.τ).loc Cert.VersionIdeal.main_arg0))
        (m ((c.tc : Thread Cert.VersionIdeal.nD Cert.VersionIdeal.τ).loc Cert.VersionIdeal.main_arg1))
        (m ((c.tc : Thread Cert.VersionIdeal.nD Cert.VersionIdeal.τ).loc Cert.VersionIdeal.main_arg2)) := by
  refine Eq.trans ?_ (Cert.StoredEquation.indices_eq _ _ _)
  unfold idxV zV wV bV tbV slV
  rw [V_rows, V_bias, V_groups, V_table, V_main_arg1, Cert.StoredEquation.groups_eq]

/-- The stored reference's frame: its run read at the arguments; it has no semaphore. -/
theorem frame_stored : Cert.quiescent_StoredIdeal := fun m ρ _ =>
  (θ_run Cert.StoredIdeal.defs _ _).mono (fun r h => ⟨fun c => (h c).2.2,
      Idealize.ShloMosaic.sem_eq_zero_of_no_sems (by decide) r.2⟩)
    (Cert.StoredIdeal.Value.run (F := Ideal) m ρ)

/-- The value claim: both results of the version as it stands are the stored reference's, over the extended reals. -/
theorem algebraic : Cert.algebraic_VersionIdeal_StoredIdeal := by
  intro m ρ m' ρ' _ hag
  refine ⟨fun c => _, fun c => _, Cert.VersionIdeal.Value.run m ρ,
    (θ_run Cert.StoredIdeal.defs _ _).mono (fun _ h c => ⟨(h c).1.trans ?_, (h c).2.1.trans ?_, (h c).2.2⟩)
      (Cert.StoredIdeal.Value.run (F := Ideal) m' ρ')⟩
  · refine (Cert.StoredIdeal.Reading.res_out m' c).trans ?_
    rw [(hag c).1, (hag c).2.1, (hag c).2.2.1, (hag c).2.2.2.1, (hag c).2.2.2.2]
    exact (version_out m c).symm
  · refine (Cert.StoredIdeal.Reading.res_idx m' c).trans ?_
    rw [(hag c).1, (hag c).2.1, (hag c).2.2.1]
    exact (version_idx m c).symm

end Cert.StoredClaims

end
-- ==== Proof.Version.Frame.lean ====
/-
The version as it stands, at words: its text is the text read over the extended reals, so the launch's run, which is proved for any
interpretation of the floats, is its run too.
-/
module

public import proofs.«01_k».proof.Defs
public import proofs.«01_k».proof.Proof.Gen.Version
public import proofs.«01_k».proof.Proof.VersionIdeal.Run

@[expose] public section

set_option maxRecDepth 16384

noncomputable section

namespace Cert.Version.Frame

open Idealize.ShloMosaic Idealize.ShloMosaic.TcCoe Idealize.SL.Sem

/-- The two texts have one body table at words, -/
theorem body_table : @Cert.Version.defs₀ Bits _ Cert.Version.Gen.facts = @Cert.VersionIdeal.defs₀ Bits _ Cert.VersionIdeal.Gen.facts := by
  unfold Cert.Version.defs₀ Cert.VersionIdeal.defs₀
  refine congrArg (fun D => Defs.onTc (nD := Cert.VersionIdeal.nD) (τ := Cert.VersionIdeal.τ) (sig := Cert.VersionIdeal.sig)
    (Val := Elt Bits) (Λ := Cert.VersionIdeal.Λ₀) D) ?_
  funext l a
  match l, a with
  | 0, (t, s) => rfl

/-- one table with the pipeline's labels, -/
theorem table : @Cert.Version.defs Bits _ Cert.Version.Gen.facts = @Cert.VersionIdeal.defs Bits _ Cert.VersionIdeal.Gen.facts :=
  congrArg (Pipeline.defs (Cert.VersionIdeal.pcfgs (F := Bits))) body_table

/-- and one host program. -/
theorem program : @Cert.Version.main Bits _ Cert.Version.Gen.facts = @Cert.VersionIdeal.main Bits _ Cert.VersionIdeal.Gen.facts := rfl

open Cert.VersionIdeal in
/-- What the frame says of a body table and a host program. -/
def Framed (D : Defs nD τ sig (Elt Bits) (Pipeline.Sig Λ₀ (Fin 1) fun p => (pcfgs (F := Bits) p).Adm))
    (p : Dev nD → Prog (TpuEff nD τ sig (Elt Bits) (Pipeline.Sig Λ₀ (Fin 1) fun p => (pcfgs (F := Bits) p).Adm) .tc) Unit) : Prop :=
  ∀ (m : (ℓ : Loc nD τ sig) → Buf (Elt Bits) ℓ) (ρ : Dev nD → PrngReg),
    θ_run D (onTc (τ := τ) p) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The version's text read over the extended reals is framed at words, -/
theorem framed_ideal : Framed (@Cert.VersionIdeal.defs Bits _ Cert.VersionIdeal.Gen.facts) (@Cert.VersionIdeal.main Bits _ Cert.VersionIdeal.Gen.facts) :=
  fun m ρ => Cert.VersionIdeal.Value.frame (F := Bits) m ρ

/-- so the version's own is. -/
theorem framed : Framed (@Cert.Version.defs Bits _ Cert.Version.Gen.facts) (@Cert.Version.main Bits _ Cert.Version.Gen.facts) :=
  (congrArg₂ Framed table program).mpr framed_ideal

/-- The version's frame: it runs, its argument arrays end unchanged, every semaphore counter ends at zero. -/
theorem frame : Cert.quiescent_Version (hVersion := Cert.Version.Gen.facts) := fun m ρ _ => framed m ρ

end Cert.Version.Frame

end
-- ==== Proof.lean ====
/-
The claim, assembled: the programs' stated facts from the generated modules, then the ten conjuncts in the order `Defs.lean` states
them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Version
public import proofs.«01_k».proof.Proof.Gen.Version.Skeleton
public import proofs.«01_k».proof.Proof.Gen.Version.Launch
public import proofs.«01_k».proof.Proof.Gen.Version.Points
public import proofs.«01_k».proof.Proof.Gen.Version.Frame
public import proofs.«01_k».proof.Proof.Gen.VersionIdeal
public import proofs.«01_k».proof.Proof.Gen.VersionIdeal.Skeleton
public import proofs.«01_k».proof.Proof.Gen.VersionIdeal.Launch
public import proofs.«01_k».proof.Proof.Gen.VersionIdeal.Points
public import proofs.«01_k».proof.Proof.Gen.VersionIdeal.Frame
public import proofs.«01_k».proof.Proof.Gen.StoredIdeal
public import proofs.«01_k».proof.Proof.Gen.StoredIdeal.Run
public import proofs.«01_k».proof.Proof.Agreement
public import proofs.«01_k».proof.Proof.Kernel.Frame
public import proofs.«01_k».proof.Proof.StoredAgreement
public import proofs.«01_k».proof.Proof.Version.Frame
public import Idealize.ShloMosaic.Adequacy
public import Idealize.ShloMosaic.Init

@[expose] public section

noncomputable section

namespace Cert.Proof

open Idealize.ShloMosaic Idealize.SL.Sem Cert.Kernel

/-- The ten claims: for the kernel with the two derived rows computed, and for the version as it stands with them stored, the
    frames, the idealization, and the equality of both results over the extended reals. -/
theorem claim : Cert.Claim := ⟨Cert.Kernel.Gen.facts, Cert.KernelIdeal.Gen.facts, Cert.ReferenceIdeal.Gen.facts,
  Cert.Version.Gen.facts, Cert.VersionIdeal.Gen.facts, Cert.StoredIdeal.Gen.facts,
  Cert.Kernel.Frame.frame,
  fun m ρ _ => Cert.KernelIdeal.Value.frame m ρ,
  Cert.Claims.frame_reference,
  Cert.Version.Frame.frame,
  fun m ρ _ => Cert.VersionIdeal.Value.frame m ρ,
  Cert.StoredClaims.frame_stored,
  trivial,
  Cert.Claims.algebraic,
  trivial,
  Cert.StoredClaims.algebraic⟩

end Cert.Proof

end
